-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .f32) (main_arg1 : FVec F S512x16 .f32) (main_arg2 : IVec S1024x1 32) (main_arg3 : FVec F S4x512x1024 .f32) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 16#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Pre_routed_ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .f32) (main_arg1 : FVec F S512x16 .f32) (main_arg2 : IVec S1024x1 32) (main_arg3 : FVec F S16x512x1024 .f32) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 16#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Kernel.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S1024x1024 : Shape := ⟨2, ![1024, 1024]⟩
abbrev S4x224x1024 : Shape := ⟨3, ![4, 224, 1024]⟩
abbrev S224x1024 : Shape := ⟨2, ![224, 1024]⟩
abbrev S4 : Shape := ⟨1, ![4]⟩
abbrev S_ : Shape := ⟨0, ![]⟩
abbrev S1024x16 : Shape := ⟨2, ![1024, 16]⟩
abbrev S1024 : Shape := ⟨1, ![1024]⟩
abbrev S1024x224 : Shape := ⟨2, ![1024, 224]⟩
abbrev S224x512 : Shape := ⟨2, ![224, 512]⟩
abbrev S56x512 : Shape := ⟨2, ![56, 512]⟩
abbrev S1x512x1024 : Shape := ⟨3, ![1, 512, 1024]⟩
abbrev S512x1024 : Shape := ⟨2, ![512, 1024]⟩
abbrev S56x1024 : Shape := ⟨2, ![56, 1024]⟩
abbrev S1x224x1024 : Shape := ⟨3, ![1, 224, 1024]⟩
abbrev S1 : Shape := ⟨1, ![1]⟩
abbrev S1024x896 : Shape := ⟨2, ![1024, 896]⟩
abbrev S896x1024 : Shape := ⟨2, ![896, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x1, .i32⟩
  | .hbm, ⟨3, _⟩ => ⟨S4x512x1024, .f32⟩
  | .hbm, ⟨4, _⟩ => ⟨S1024x1024, .f32⟩
  | .local _ .vmem, ⟨0, _⟩ => ⟨S1024x512, .f32⟩
  | .local _ .vmem, ⟨1, _⟩ => ⟨S1024x1, .i32⟩
  | .local _ .vmem, ⟨2, _⟩ => ⟨S4x512x1024, .f32⟩
  | .local _ .vmem, ⟨3, _⟩ => ⟨S1024x1024, .f32⟩
  | .local _ .vmem, ⟨4, _⟩ => ⟨S4x224x1024, .bf16⟩
  | .local _ .vmem, ⟨5, _⟩ => ⟨S224x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_26 : BitVec 32 := 1#32
  let v41 : BitVec 32 := Scalar.muli v35 c1_i32_26
  let v42 : BitVec 32 := Scalar.addi c0_i32_27 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v102 : Index := Scalar.indexCast v2
  let c0_51 : Index := 0#32
  let c0_52 : Index := 0#32
  ![v102.toNat, 0, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_55 : BitVec 32 := 0#32
  let c0_i32_56 : BitVec 32 := 0#32
  ![v2.toNat, 0, 0]
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_53 : BitVec 32 := 1#32
  let v106 : BitVec 32 := Scalar.muli v13 c1_i32_53
  let v107 : BitVec 32 := Scalar.addi c0_i32_54 v106
  v107.toNat
def k0_off5 (d0 : Dev nD) (c1_i32_6 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  ![v24.toNat]
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_57 : BitVec 32 := 1#32
  let v114 : BitVec 32 := Scalar.muli v24 c1_i32_57
  let v115 : BitVec 32 := Scalar.addi c0_i32_58 v114
  v115.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_61 : BitVec 32 := 1#32
  let v122 : BitVec 32 := Scalar.muli v35 c1_i32_61
  let v123 : BitVec 32 := Scalar.addi c0_i32_62 v122
  v123.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_67 : BitVec 32 := 0#32
  let c0_i32_68 : BitVec 32 := 0#32
  ![v13.toNat, 0, 0]
def k0_off7 (d0 : Dev nD) (c1_i32_6 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c0_i32_71 : BitVec 32 := 0#32
  let c0_i32_72 : BitVec 32 := 0#32
  ![v24.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S16 : Shape := ⟨1, ![16]⟩
abbrev S1x16 : Shape := ⟨2, ![1, 16]⟩
abbrev S1024x16 : Shape := ⟨2, ![1024, 16]⟩
abbrev S_ : Shape := ⟨0, ![]⟩
abbrev S1024x16x1024 : Shape := ⟨3, ![1024, 16, 1024]⟩
abbrev S1024x16x1 : Shape := ⟨3, ![1024, 16, 1]⟩
abbrev S1024x1024 : Shape := ⟨2, ![1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x1, .i32⟩
  | .hbm, ⟨3, _⟩ => ⟨S16x512x1024, .f32⟩
  | .hbm, ⟨4, _⟩ => ⟨S16, .i32⟩
  | .hbm, ⟨5, _⟩ => ⟨S1x16, .i32⟩
  | .hbm, ⟨6, _⟩ => ⟨S1024x16, .i32⟩
  | .hbm, ⟨7, _⟩ => ⟨S1024x16, .i32⟩
  | .hbm, ⟨8, _⟩ => ⟨S1024x16, .i1⟩
  | .hbm, ⟨9, _⟩ => ⟨S1024x16, .i32⟩
  | .hbm, ⟨10, _⟩ => ⟨S_, .i32⟩
  | .hbm, ⟨11, _⟩ => ⟨S_, .i32⟩
  | .hbm, ⟨12, _⟩ => ⟨S1024x16, .i32⟩
  | .hbm, ⟨13, _⟩ => ⟨S_, .i32⟩
  | .hbm, ⟨14, _⟩ => ⟨S1024x16, .i32⟩
  | .hbm, ⟨15, _⟩ => ⟨S1024x16, .i1⟩
  | .hbm, ⟨16, _⟩ => ⟨S1024x16, .i1⟩
  | .hbm, ⟨17, _⟩ => ⟨S1024x16x1024, .f32⟩
  | .hbm, ⟨18, _⟩ => ⟨S1024x16x1, .i1⟩
  | .hbm, ⟨19, _⟩ => ⟨S_, .f32⟩
  | .hbm, ⟨20, _⟩ => ⟨S_, .f32⟩
  | .hbm, ⟨21, _⟩ => ⟨S1024x16x1024, .i1⟩
  | .hbm, ⟨22, _⟩ => ⟨S1024x16x1024, .f32⟩
  | .hbm, ⟨23, _⟩ => ⟨S1024x16x1024, .f32⟩
  | .hbm, ⟨24, _⟩ => ⟨S_, .f32⟩
  | .hbm, ⟨25, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.KernelIdeal.Slots.lean ====
/-
The exchange of the kernel, first part: the devices, the buffers and semaphores that a transfer goes through, and
what the gathered buffer holds.

Every device computes one table of 224 rows (its four local experts, 56 rows each) and sends it to the three other
devices. The gathered buffer of a device has four slots, one per device; slot `s` receives the table of device `s`.
This module names the three peers of a device, the slots as sets of elements, the contents each buffer ends with, and
proves that the slots are disjoint, cover the buffer, and that what lands in slot `s` is the table of device `s`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The three peers of a device -/

set_option backward.proofsInPublic true in
/-- The device before `c`. -/
def lf (c : Dev nD) : Dev nD := ⟨(c.val + 3) % 4, Nat.mod_lt _ (by decide)⟩
set_option backward.proofsInPublic true in
/-- The device after `c`. -/
def rt (c : Dev nD) : Dev nD := ⟨(c.val + 1) % 4, Nat.mod_lt _ (by decide)⟩
set_option backward.proofsInPublic true in
/-- The device opposite `c`. -/
def dg (c : Dev nD) : Dev nD := ⟨(c.val + 2) % 4, Nat.mod_lt _ (by decide)⟩

theorem lf_rt (c : Dev nD) : lf (rt c) = c := by revert c; decide
theorem rt_lf (c : Dev nD) : rt (lf c) = c := by revert c; decide
theorem dg_dg (c : Dev nD) : dg (dg c) = c := by revert c; decide
theorem lf_ne (c : Dev nD) : lf c ≠ c := by revert c; decide
theorem rt_ne (c : Dev nD) : rt c ≠ c := by revert c; decide
theorem dg_ne (c : Dev nD) : dg c ≠ c := by revert c; decide
theorem rt_ne_lf (c : Dev nD) : rt c ≠ lf c := by revert c; decide
theorem dg_ne_lf (c : Dev nD) : dg c ≠ lf c := by revert c; decide
theorem dg_ne_rt (c : Dev nD) : dg c ≠ rt c := by revert c; decide
theorem peers (c : Dev nD) : (Finset.univ : Finset (Dev nD)).erase c = {lf c, rt c, dg c} := by revert c; decide
theorem univ_peers (c : Dev nD) : (Finset.univ : Finset (Dev nD)) = {c, lf c, rt c, dg c} := by revert c; decide

theorem dev1_eq : ∀ c : Dev nD, (⟨k0_dev1 c, k0_dev1_lt c⟩ : Dev nD) = lf c := by decide +kernel
theorem dev2_eq : ∀ c : Dev nD, (⟨k0_dev2 c, k0_dev2_lt c⟩ : Dev nD) = rt c := by decide +kernel
theorem dev3_eq : ∀ c : Dev nD, (⟨k0_dev3 c, k0_dev3_lt c⟩ : Dev nD) = dg c := by decide +kernel
theorem dev4_eq : ∀ c : Dev nD, (⟨k0_dev4 c, k0_dev4_lt c⟩ : Dev nD) = lf c := by decide +kernel
theorem dev5_eq : ∀ c : Dev nD, (⟨k0_dev5 c, k0_dev5_lt c⟩ : Dev nD) = rt c := by decide +kernel
theorem dev6_eq : ∀ c : Dev nD, (⟨k0_dev6 c, k0_dev6_lt c⟩ : Dev nD) = dg c := by decide +kernel

/-! ## The semaphores -/

/-- The barrier semaphore of the launch. -/
abbrev barS : Sem sig := (SemArray.scalar (sig.barrier 0 rfl) : Sems sig S_).sem

set_option backward.proofsInPublic true in
/-- The semaphore a device's transfer TO `t` counts on at the sender. -/
def sendS (t : Dev nD) : DmaSem sig := ⟨4 + t.val, by have := t.isLt; show 4 + t.val < 12; have h : nD = 4 := rfl; omega⟩
set_option backward.proofsInPublic true in
/-- The semaphore the transfer FROM `s` counts on at the receiver. -/
def recvS (s : Dev nD) : DmaSem sig := ⟨8 + s.val, by have := s.isLt; show 8 + s.val < 12; have h : nD = 4 := rfl; omega⟩

theorem send_lf : ∀ c : Dev nD, ((cc0_scratch2.slice (Rect.unit (s := S4) (k0_off2 c) S1.size (k0_off2_inb c))).squeeze S_ squeezes_S1_S_).sem = sendS (lf c) := by decide +kernel
theorem send_rt : ∀ c : Dev nD, ((cc0_scratch2.slice (Rect.unit (s := S4) (k0_off5 c 1#32) S1.size (k0_off5_inb c 0))).squeeze S_ squeezes_S1_S_).sem = sendS (rt c) := by decide +kernel
theorem send_dg : ∀ c : Dev nD, ((cc0_scratch2.slice (Rect.unit (s := S4) (k0_off5 c 2#32) S1.size (k0_off5_inb c 1))).squeeze S_ squeezes_S1_S_).sem = sendS (dg c) := by decide +kernel
theorem recv_self : ∀ c : Dev nD, ((cc0_scratch3.slice (Rect.unit (s := S4) (k0_off3 c) S1.size (k0_off3_inb c))).squeeze S_ squeezes_S1_S_).sem = recvS c := by decide +kernel
theorem recv_lf : ∀ c : Dev nD, ((cc0_scratch3.slice (Rect.unit (s := S4) (k0_off2 c) S1.size (k0_off2_inb c))).squeeze S_ squeezes_S1_S_).sem = recvS (lf c) := by decide +kernel
theorem recv_rt : ∀ c : Dev nD, ((cc0_scratch3.slice (Rect.unit (s := S4) (k0_off5 c 1#32) S1.size (k0_off5_inb c 0))).squeeze S_ squeezes_S1_S_).sem = recvS (rt c) := by decide +kernel
theorem recv_dg : ∀ c : Dev nD, ((cc0_scratch3.slice (Rect.unit (s := S4) (k0_off5 c 2#32) S1.size (k0_off5_inb c 1))).squeeze S_ squeezes_S1_S_).sem = recvS (dg c) := by decide +kernel

abbrev barCell (c : Dev nD) : GSem nD τ sig := ((c : Thread nD τ), .reg barS)
abbrev sendCell (c t : Dev nD) : GSem nD τ sig := ((c : Thread nD τ), .dma (sendS t))
abbrev recvCell (c s : Dev nD) : GSem nD τ sig := ((c : Thread nD τ), .dma (recvS s))

/-! ## The buffers -/

abbrev xM : Memref sig .tc .vmem S1024x512 .f32 := Memref.whole cc0_stg0_0
abbrev iM : Memref sig .tc .vmem S1024x1 .i32 := Memref.whole cc0_stg1_0
abbrev wM : Memref sig .tc .vmem S4x512x1024 .f32 := Memref.whole cc0_stg2_0
abbrev oM : Memref sig .tc .vmem S1024x1024 .f32 := Memref.whole cc0_stg3_0
abbrev gM : Memref sig .tc .vmem S4x224x1024 .bf16 := Memref.whole cc0_scratch0
abbrev yM : Memref sig .tc .vmem S224x1024 .bf16 := Memref.whole cc0_scratch1

/-- The rectangle of slot `s` in the gathered buffer, -/
abbrev slotR (s : Dev nD) : Rect S4x224x1024 := Rect.unit (s := S4x224x1024) (k0_off4 s) S1x224x1024.size (k0_off4_inb s)
/-- the same as the kernel spells it where it writes its own slot, -/
abbrev ownR (s : Dev nD) : Rect S4x224x1024 := Rect.unit (s := S4x224x1024) (k0_off1 s) S1x224x1024.size (k0_off1_inb s)
/-- and the slot as a buffer of 224 rows, the target of a transfer. -/
abbrev slotM (s : Dev nD) : Memref sig .tc .vmem S224x1024 .bf16 :=
  ((gM : Memref sig .tc .vmem S4x224x1024 .bf16).slice (slotR s) (fun _ => rfl)).squeeze S224x1024 squeezes_S1x224x1024_S224x1024

/-- The elements of slot `s`. -/
def slotSet (s : Dev nD) : Finset (cc0_scratch0 : Ref sig .tc).ty.shape.Idx := (slotR s).set

theorem mem_slotSet (s : Dev nD) (i : (cc0_scratch0 : Ref sig .tc).ty.shape.Idx) : i ∈ slotSet s ↔ (i 0).val = s.val := by
  unfold slotSet slotR
  rw [Rect.mem_set_unit]
  simp only [k0_off4_eq]
  refine ⟨fun h => ?_, fun h a => ?_⟩
  · obtain ⟨h1, h2⟩ := h 0
    have h1' : s.val ≤ (i 0).val := h1
    have h2' : (i 0).val < s.val + 1 := h2
    omega
  · match a with
    | ⟨0, _⟩ => exact ⟨le_of_eq h.symm, show (i 0).val < s.val + 1 by omega⟩
    | ⟨1, _⟩ => exact ⟨Nat.zero_le _, show (i 1).val < 0 + 224 by have := (i 1).isLt; change (i 1).val < 224 at this; omega⟩
    | ⟨2, _⟩ => exact ⟨Nat.zero_le _, show (i 2).val < 0 + 1024 by have := (i 2).isLt; change (i 2).val < 1024 at this; omega⟩

theorem slotM_set (s : Dev nD) : (slotM s).view.set = slotSet s := by
  rw [Memref.set_view_squeeze]
  exact View.set_slice_whole _ _

theorem ownR_eq (s : Dev nD) : (ownR s).set = slotSet s := by
  ext i
  rw [mem_slotSet, ownR, Rect.mem_set_unit]
  simp only [k0_off1_eq]
  have := mem_slotSet s i
  unfold slotSet slotR at this
  rw [Rect.mem_set_unit] at this
  simp only [k0_off4_eq] at this
  exact this

theorem slot_disjoint {s t : Dev nD} (h : s ≠ t) : Disjoint (slotSet s) (slotSet t) :=
  Finset.disjoint_left.mpr fun i hi hj => h (Fin.ext (((mem_slotSet s i).mp hi).symm.trans ((mem_slotSet t i).mp hj)))

theorem slot_cover : (Finset.univ : Finset (Dev nD)).biUnion slotSet = Finset.univ :=
  Finset.eq_univ_of_forall fun i => Finset.mem_biUnion.mpr
    ⟨⟨(i 0).val, (i 0).isLt⟩, Finset.mem_univ _, (mem_slotSet _ i).mpr rfl⟩

end Cert.KernelIdeal.Exchange

end
-- ==== Proof.KernelIdeal.Contents.lean ====
/-
The exchange of the kernel, second part: what the buffers hold.

`table c` is the table device `c` computes and sends; `gathered` is the gathered buffer after the exchange, the same on
every device; `outAt c` is the block of results device `c` writes. The lemmas say that a transfer into slot `s` and
device `s`'s own store into it both leave there what `gathered` holds.
-/
module

public import proofs.«01_k».proof.Proof.KernelIdeal.Slots

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The tokens of device `c`, -/
def xstg (c : Dev nD) : (cc0_stg0_0 : Ref sig .tc).ty.Contents (Elt F) :=
  (win0_0.blk (0 : Fin 1)).view.read (Elt F) ((s₀ m ρ).mem ((c : Thread nD τ).loc main_arg0))
/-- the expert each token is routed to, -/
def istg (c : Dev nD) : (cc0_stg1_0 : Ref sig .tc).ty.Contents (Elt F) :=
  (win0_1.blk (0 : Fin 1)).view.read (Elt F) ((s₀ m ρ).mem ((c : Thread nD τ).loc main_arg2))
/-- and the weights of the four experts of device `c`. -/
def wstg (c : Dev nD) : (cc0_stg2_0 : Ref sig .tc).ty.Contents (Elt F) :=
  (win0_2.blk (0 : Fin 1)).view.read (Elt F) ((s₀ m ρ).mem ((c : Thread nD τ).loc main_arg3))

/-- The weights of one local expert, as the kernel loads them. -/
abbrev wAt (W : (cc0_stg2_0 : Ref sig .tc).ty.Contents (Elt F)) (k : ℕ) (h : ∀ a, (![k, 0, 0] : Fin 3 → ℕ) a + S1x512x1024.size a ≤ S4x512x1024.size a) :
    Vec F S1x512x1024 .f32 :=
  (wM : Memref sig .tc .vmem S4x512x1024 .f32).view.readAt (Elt F) (Rect.unit (s := S4x512x1024) ![k, 0, 0] S1x512x1024.size h).toLoadRect W

/-- The number of a device along the mesh, as the kernel computes it. -/
abbrev devWord (c : Dev nD) : BitVec 32 := Scalar.remsi (Scalar.divsi (Dev.word c) 1#32) 4#32

/-- The table of 224 rows device `c` computes. -/
def table (c : Dev nD) : (cc0_scratch1 : Ref sig .tc).ty.Contents (Elt F) :=
  k0_pay9 (k0_pay4 (istg m ρ c)) (k0_pay6 (devWord c)) (k0_pay7 (istg m ρ c)) (xstg m ρ c)
    (wAt (wstg m ρ c) 0 inb_S4x512x1024_S1x512x1024_0_0_0) (wAt (wstg m ρ c) 1 inb_S4x512x1024_S1x512x1024_1_0_0)
    (wAt (wstg m ρ c) 2 inb_S4x512x1024_S1x512x1024_2_0_0) (wAt (wstg m ρ c) 3 inb_S4x512x1024_S1x512x1024_3_0_0)

/-- The same table as a slab of one slot, as device `c` stores it into its own slot. -/
def slab (c : Dev nD) : Vec F S1x224x1024 .bf16 :=
  k0_pay10 (k0_pay4 (istg m ρ c)) (k0_pay6 (devWord c)) (k0_pay7 (istg m ρ c)) (xstg m ρ c)
    (wAt (wstg m ρ c) 0 inb_S4x512x1024_S1x512x1024_0_0_0) (wAt (wstg m ρ c) 1 inb_S4x512x1024_S1x512x1024_1_0_0)
    (wAt (wstg m ρ c) 2 inb_S4x512x1024_S1x512x1024_2_0_0) (wAt (wstg m ρ c) 3 inb_S4x512x1024_S1x512x1024_3_0_0)

/-- The gathered buffer after the exchange: slot `s` holds device `s`'s table. -/
def gathered : (cc0_scratch0 : Ref sig .tc).ty.Contents (Elt F) := fun i =>
  table m ρ ⟨(i 0).val, (i 0).isLt⟩ (fun a => i a.succ)

/-- The block of results of device `c`. -/
def outAt (c : Dev nD) : (cc0_stg3_0 : Ref sig .tc).ty.Contents (Elt F) :=
  k0_pay1 (k0_pay11 (k0_pay4 (istg m ρ c)) (k0_pay5 (istg m ρ c))) (gathered m ρ)

/-! ## Slot `s` of the gathered buffer -/

theorem gathered_at (s : Dev nD) (i : (cc0_scratch0 : Ref sig .tc).ty.shape.Idx) (j : (cc0_scratch1 : Ref sig .tc).ty.shape.Idx)
    (h0 : (i 0).val = s.val) (h : ∀ a : Fin 2, (i a.succ).val = (j a).val) : gathered m ρ i = table m ρ s j := by
  unfold gathered
  have e1 : (⟨(i 0).val, (i 0).isLt⟩ : Dev nD) = s := Fin.ext h0
  have e2 : (fun a : Fin 2 => i a.succ) = j := funext fun a => Fin.ext (h a)
  rw [e1]; exact congrArg _ e2

/-- The element of the buffer at row `j` of slot `s`. -/
theorem emb_slot (s : Dev nD) (j : S224x1024.Idx) :
    (((slotM s).view.emb j 0 : Fin _) : ℕ) = s.val ∧ ∀ a : Fin 2, (((slotM s).view.emb j a.succ : Fin _) : ℕ) = (j a).val := by
  have e : (slotM s).view.emb j = (slotR s).emb (Shape.reshapeEquiv (s := S1x224x1024) squeezes_S1x224x1024_S224x1024.numel_eq j) := rfl
  have r : Shape.reshapeEquiv (s := S1x224x1024) squeezes_S1x224x1024_S224x1024.numel_eq j = Fin.cons ⟨0, Nat.one_pos⟩ j :=
    Shape.reshapeEquiv_cons_one (d := ![224, 1024]) _ j
  rw [e, r]
  refine ⟨?_, fun a => ?_⟩
  · show k0_off4 s 0 + 1 * 0 = s.val
    rw [k0_off4_eq]; rfl
  · show k0_off4 s a.succ + 1 * (j a).val = (j a).val
    rw [k0_off4_eq]
    have : (![s.val, 0, 0] : Fin 3 → ℕ) a.succ = 0 := by fin_cases a <;> rfl
    omega

/-- A transfer of device `s`'s table into slot `s` leaves there what `gathered` holds. -/
theorem landed (s : Dev nD) (f : (cc0_scratch0 : Ref sig .tc).ty.Contents (Elt F)) :
    ∀ i ∈ (slotM s).view.set, (slotM s).view.write (Elt F) f ((yM : Memref sig .tc .vmem S224x1024 .bf16).view.read (Elt F) (table m ρ s)) Finset.univ i
      = gathered m ρ i := by
  intro i hi
  obtain ⟨j, rfl⟩ := View.exists_emb_of_mem_set _ hi
  rw [View.write_emb_of_mem _ _ (Finset.mem_univ j), gathered_at m ρ s _ j (emb_slot s j).1 (emb_slot s j).2]
  show cast _ ((View.whole cc0_scratch1).read (Elt F) (table m ρ s) j) = _
  rw [View.read_whole]; rfl

/-- A table as a slab of one slot, read at row `j`, is the table read there. -/
theorem slab_of_rows {α : Type} (v : S224x1024.Idx → α) (j : S224x1024.Idx) :
    shapeCast S1x224x1024 v shapeCasts_S224x1024_S1x224x1024 (Fin.cons ⟨0, Nat.one_pos⟩ j : S1x224x1024.Idx)
      = shapeCast S224x1024 v shapeCasts_S224x1024_S224x1024 j := by
  have r : Shape.reshapeEquiv (s := S1x224x1024) squeezes_S1x224x1024_S224x1024.numel_eq j = Fin.cons ⟨0, Nat.one_pos⟩ j :=
    Shape.reshapeEquiv_cons_one (d := ![224, 1024]) _ j
  rw [← r]
  unfold shapeCast
  rw [Shape.reshapeEquiv_self]
  exact congrArg v ((Shape.reshapeEquiv_reshapeEquiv _ _ j).trans (Shape.reshapeEquiv_self _ j))

/-- The slab device `c` stores into its own slot is its table. -/
theorem slab_eq (c : Dev nD) (j : S224x1024.Idx) : slab m ρ c (Fin.cons ⟨0, Nat.one_pos⟩ j : S1x224x1024.Idx) = table m ρ c j := by
  unfold slab table k0_pay10 k0_pay9
  exact slab_of_rows _ j

/-- Device `c`'s own store leaves in slot `c` what `gathered` holds. -/
theorem stored (c : Dev nD) (f : (cc0_scratch0 : Ref sig .tc).ty.Contents (Elt F)) :
    ∀ i ∈ slotSet c, ((gM : Memref sig .tc .vmem S4x224x1024 .bf16).access (ownR c) : View sig .tc _ _ _).write (Elt F) f (slab m ρ c) Finset.univ i
      = gathered m ρ i := by
  intro i hi
  rw [← ownR_eq] at hi
  have hs : ((gM : Memref sig .tc .vmem S4x224x1024 .bf16).access (ownR c) : View sig .tc _ _ _).set = (ownR c).set := View.set_slice_whole _ _
  rw [← hs] at hi
  obtain ⟨y, rfl⟩ := View.exists_emb_of_mem_set _ hi
  rw [View.write_emb_of_mem _ _ (Finset.mem_univ y)]
  have hy : y = (Fin.cons ⟨0, Nat.one_pos⟩ (fun a : Fin 2 => y a.succ : S224x1024.Idx) : S1x224x1024.Idx) := by
    funext a
    match a with
    | ⟨0, _⟩ => exact Fin.ext (by have h : (y 0).val < 1 := (y 0).isLt; show (y 0).val = 0; omega)
    | ⟨1, _⟩ => rfl
    | ⟨2, _⟩ => rfl
  have hv : ∀ a, ((((gM : Memref sig .tc .vmem S4x224x1024 .bf16).access (ownR c) : View sig .tc _ _ _).emb y a : Fin _) : ℕ) = k0_off1 c a + 1 * (y a).val := fun _ => rfl
  have hy0 : (y 0).val = 0 := by have h : (y 0).val < 1 := (y 0).isLt; omega
  rw [gathered_at m ρ c _ (fun a : Fin 2 => y a.succ)
    (by rw [hv, k0_off1_eq]; show c.val + 1 * (y 0).val = c.val; omega)
    (fun a => by
      rw [hv, k0_off1_eq]
      have : (![c.val, 0, 0] : Fin 3 → ℕ) a.succ = 0 := by fin_cases a <;> rfl
      omega)]
  exact (congrArg (slab m ρ c) hy).trans (slab_eq m ρ c (fun a : Fin 2 => y a.succ))

end Cert.KernelIdeal.Exchange

end
-- ==== Proof.KernelIdeal.Schedule.lean ====
/-
The exchange of the kernel, third part: who owes what to whom.

A device signals the barrier of each of its three peers once, and the signal hands over the slot of its own gathered
buffer that this peer will fill. Each of the twelve transfers counts on one semaphore at its sender, where it returns
the share of the table it read, and on one at its receiver, where it hands over the filled slot. All this happens in
one round; the semaphores that no transfer uses have no duties.
-/
module

public import proofs.«01_k».proof.Proof.KernelIdeal.Contents

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is handed over -/

/-- Slot `s` of device `t`'s gathered buffer, holding `f` there. -/
def slotPts (t s : Dev nD) (f : (cc0_scratch0 : Ref sig .tc).ty.Contents (Elt F)) : sProp 𝕄 :=
  ((t : Thread nD τ).loc cc0_scratch0) ↦[slotSet s]{fullShare} f
/-- A share of device `c`'s table. -/
def tablePts (q : PosShare TreeShare) (c : Dev nD) : sProp 𝕄 :=
  ((c : Thread nD τ).loc cc0_scratch1) ↦{q} table m ρ c

omit [FloatOps F] in
instance slotPts_storable (t s : Dev nD) (f) : BI.Storable (upEmb : UEmb _ 𝕄) (slotPts (F := F) t s f) := by unfold slotPts; infer_instance
instance tablePts_storable (q : PosShare TreeShare) (c : Dev nD) : BI.Storable (upEmb : UEmb _ 𝕄) (tablePts (F := F) m ρ q c) := by
  unfold tablePts; infer_instance

/-- The share of its table that device `c` gives the transfer to `t`. -/
def shr (c t : Dev nD) : PosShare TreeShare :=
  if t = lf c then fullShare.left else if t = rt c then fullShare.right.left else fullShare.right.right

theorem shr_lf (c : Dev nD) : shr c (lf c) = fullShare.left := if_pos rfl
theorem shr_rt (c : Dev nD) : shr c (rt c) = fullShare.right.left := by
  unfold shr; rw [if_neg (rt_ne_lf c), if_pos rfl]
theorem shr_dg (c : Dev nD) : shr c (dg c) = fullShare.right.right := by
  unfold shr; rw [if_neg (dg_ne_lf c), if_neg (dg_ne_rt c)]

/-- The bytes' credit of one transfer. -/
abbrev N : ℕ := (slotM ⟨0, by decide⟩ : Memref sig .tc .vmem S224x1024 .bf16).view.dmaCredit
theorem N_pos : 0 < N := View.dmaCredit_pos _ (by decide)

/-- The name of the one duty of a transfer's semaphore. -/
abbrev d₁ : Dev nD := ⟨0, by decide⟩

set_option backward.proofsInPublic true in
/-- The device whose transfer a semaphore counts: the target of the transfer at a sender, its source at a receiver. -/
def peer (q : DmaSem sig) : Dev nD := ⟨q.val % 4, Nat.mod_lt _ (by decide)⟩
theorem peer_send : ∀ t : Dev nD, peer (sendS t) = t := by decide
theorem peer_recv : ∀ s : Dev nD, peer (recvS s) = s := by decide

/-- One round. Device `d`'s signal to device `t` hands `t` slot `t` of `d`'s gathered buffer. -/
def rd : Rounds.Schedule (GSem nD τ sig) (Dev nD) 𝕄 where
  duties g r := if r = 0 then
      (match g.2 with
        | .reg s => if s = barS then Finset.univ.erase g.1.1 else ∅
        | .dma q => if 4 ≤ q.val ∧ peer q ≠ g.1.1 then {d₁} else ∅)
    else ∅
  unitless _ := False
  amount g _ _ := match g.2 with
    | .reg _ => 1
    | .dma _ => N
  payload g _ d := match g.2 with
    | .reg _ => iprop((∃ f, slotPts d g.1.1 f) ∗ reached ER (recvCell d g.1.1) 0)
    | .dma q => if 8 ≤ q.val then slotPts g.1.1 (peer q) (gathered m ρ) else tablePts m ρ (shr g.1.1 (peer q)) g.1.1
  amount_pos g _ _ _ := by
    rcases g with ⟨t, s | q⟩
    · exact Nat.one_pos
    · exact N_pos

instance rd_payload_storable (g : GSem nD τ sig) (r : ℕ) (d : Dev nD) :
    BI.Storable (upEmb : UEmb _ 𝕄) ((rd (F := F) m ρ).payload g r d) := by
  rcases g with ⟨t, s | q⟩
  · show BI.Storable upEmb (iprop((∃ f, slotPts d t.1 f) ∗ reached ER (recvCell d t.1) 0))
    infer_instance
  · show BI.Storable upEmb (if 8 ≤ q.val then slotPts t.1 (peer q) (gathered m ρ) else tablePts m ρ (shr t.1 (peer q)) t.1)
    split <;> infer_instance

section Sched
variable (c t : Dev nD)

theorem four_le_send : ∀ t : Dev nD, 4 ≤ (sendS t).val := by decide
theorem four_le_recv : ∀ t : Dev nD, 4 ≤ (recvS t).val := by decide
theorem eight_le_recv : ∀ t : Dev nD, 8 ≤ (recvS t).val := by decide
theorem not_eight_le_send : ∀ t : Dev nD, ¬ 8 ≤ (sendS t).val := by decide

theorem duties_bar : (rd (F := F) m ρ).duties (barCell c) 0 = Finset.univ.erase c := by
  show (if barS = barS then Finset.univ.erase c else ∅) = _
  rw [if_pos rfl]
theorem duties_send (h : t ≠ c) : (rd (F := F) m ρ).duties (sendCell c t) 0 = {d₁} := by
  show (if 4 ≤ (sendS t).val ∧ peer (sendS t) ≠ c then {d₁} else ∅) = _
  rw [peer_send, if_pos ⟨four_le_send t, h⟩]
theorem duties_recv (h : t ≠ c) : (rd (F := F) m ρ).duties (recvCell c t) 0 = {d₁} := by
  show (if 4 ≤ (recvS t).val ∧ peer (recvS t) ≠ c then {d₁} else ∅) = _
  rw [peer_recv, if_pos ⟨four_le_recv t, h⟩]
theorem duties_later (g : GSem nD τ sig) : ∀ r, 1 ≤ r → (rd (F := F) m ρ).duties g r = ∅ :=
  fun r hr => if_neg (by omega)
theorem duties_send_self : ∀ r, 0 ≤ r → (rd (F := F) m ρ).duties (sendCell c c) r = ∅ := fun r _ => by
  show (if r = 0 then (if 4 ≤ (sendS c).val ∧ peer (sendS c) ≠ c then {d₁} else ∅) else ∅) = _
  rw [peer_send]; simp
theorem duties_recv_self : ∀ r, 0 ≤ r → (rd (F := F) m ρ).duties (recvCell c c) r = ∅ := fun r _ => by
  show (if r = 0 then (if 4 ≤ (recvS c).val ∧ peer (recvS c) ≠ c then {d₁} else ∅) else ∅) = _
  rw [peer_recv]; simp

theorem mem_bar {d : Dev nD} (h : d ≠ c) : d ∈ (rd (F := F) m ρ).duties (barCell c) 0 := by
  rw [duties_bar]; exact Finset.mem_erase.mpr ⟨h, Finset.mem_univ _⟩
theorem mem_send (h : t ≠ c) : d₁ ∈ (rd (F := F) m ρ).duties (sendCell c t) 0 := by
  rw [duties_send m ρ c t h]; exact Finset.mem_singleton_self _
theorem mem_recv (h : t ≠ c) : d₁ ∈ (rd (F := F) m ρ).duties (recvCell c t) 0 := by
  rw [duties_recv m ρ c t h]; exact Finset.mem_singleton_self _

theorem amount_bar (d : Dev nD) : (rd (F := F) m ρ).amount (barCell c) 0 d = 1 := rfl
theorem amount_send (d : Dev nD) : (rd (F := F) m ρ).amount (sendCell c t) 0 d = N := rfl
theorem amount_recv (d : Dev nD) : (rd (F := F) m ρ).amount (recvCell c t) 0 d = N := rfl

theorem expect_bar : (rd (F := F) m ρ).expect (barCell c) 0 = 3 := by
  unfold Schedule.expect Schedule.amountOf
  rw [duties_bar, Finset.sum_congr rfl fun d _ => amount_bar m ρ c d]
  revert c; decide
theorem expect_send (h : t ≠ c) : (rd (F := F) m ρ).expect (sendCell c t) 0 = N := by
  unfold Schedule.expect Schedule.amountOf; rw [duties_send m ρ c t h, Finset.sum_singleton, amount_send]
theorem expect_recv (h : t ≠ c) : (rd (F := F) m ρ).expect (recvCell c t) 0 = N := by
  unfold Schedule.expect Schedule.amountOf; rw [duties_recv m ρ c t h, Finset.sum_singleton, amount_recv]

theorem payload_bar (d : Dev nD) : (rd (F := F) m ρ).payload (barCell c) 0 d
    = iprop((∃ f, slotPts d c f) ∗ reached ER (recvCell d c) 0) := rfl
theorem payload_send (d : Dev nD) : (rd (F := F) m ρ).payload (sendCell c t) 0 d = tablePts m ρ (shr c t) c := by
  show (if 8 ≤ (sendS t).val then slotPts c (peer (sendS t)) (gathered m ρ) else tablePts m ρ (shr c (peer (sendS t))) c) = _
  rw [if_neg (not_eight_le_send t), peer_send]
theorem payload_recv (d : Dev nD) : (rd (F := F) m ρ).payload (recvCell c t) 0 d = slotPts c t (gathered m ρ) := by
  show (if 8 ≤ (recvS t).val then slotPts c (peer (recvS t)) (gathered m ρ) else tablePts m ρ (shr c (peer (recvS t))) c) = _
  rw [if_pos (eight_le_recv t), peer_recv]

/-- What the wait on a barrier brings: slot `c` of each of the three peers. -/
theorem rest_bar : bigSep ((rd (F := F) m ρ).duties (barCell c) 0 \ ∅) (fun d => (rd (F := F) m ρ).payload (barCell c) 0 d)
    = iprop(((∃ f, slotPts (lf c) c f) ∗ reached ER (recvCell (lf c) c) 0) ∗ ((∃ f, slotPts (rt c) c f) ∗ reached ER (recvCell (rt c) c) 0)
        ∗ (∃ f, slotPts (dg c) c f) ∗ reached ER (recvCell (dg c) c) 0) := by
  rw [Finset.sdiff_empty, duties_bar, bigSep_eq_bigSepL_of_eq [lf c, rt c, dg c]
    (by revert c; decide) (by revert c; decide), bigSepL_cons_cons, bigSepL_cons_cons, bigSepL_singleton]
  rfl
theorem rest_send (h : t ≠ c) : bigSep ((rd (F := F) m ρ).duties (sendCell c t) 0 \ ∅) (fun d => (rd (F := F) m ρ).payload (sendCell c t) 0 d)
    = tablePts m ρ (shr c t) c := by
  rw [Finset.sdiff_empty, duties_send m ρ c t h, bigSep_singleton, payload_send]
theorem rest_recv (h : t ≠ c) : bigSep ((rd (F := F) m ρ).duties (recvCell c t) 0 \ ∅) (fun d => (rd (F := F) m ρ).payload (recvCell c t) 0 d)
    = slotPts c t (gathered m ρ) := by
  rw [Finset.sdiff_empty, duties_recv m ρ c t h, bigSep_singleton, payload_recv]

end Sched

/-! ## What each device owes at launch, and the order of the waits -/

/-- What device `c` owes once it has signalled the barriers: one transfer's credit to each peer; -/
def O₃ (c : Dev nD) : CellTallies nD τ sig Unit :=
  tallyAt (recvCell (dg c) c) () N + tallyAt (recvCell (rt c) c) () N + tallyAt (recvCell (lf c) c) () N
/-- at launch it also owes each peer's barrier one unit. -/
def O₀ (c : Dev nD) : CellTallies nD τ sig Unit :=
  O₃ c + tallyAt (barCell (dg c)) () 1 + tallyAt (barCell (rt c)) () 1 + tallyAt (barCell (lf c)) () 1

def L (g : GSem nD τ sig) : Finset Unit := if g.1.2 = .tc then {()} else ∅
/-- The barriers are waited for first, then the receivers' semaphores; the rest owes nothing to wait for. -/
def lv (g : GSem nD τ sig) (_ : Unit) : ℕ := match g.2 with
  | .reg _ => 1
  | .dma q => if 8 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c t : Dev nD) (u : Unit) : lv (recvCell c t) u = 2 := if_pos (eight_le_recv t)

/-- Device `c` owes only at receivers' semaphores once the barriers are signalled, -/
theorem O₃_pos {c : Dev nD} {g : GSem nD τ sig} {u : Unit} (h : 0 < O₃ c g u) : ∃ t, g = recvCell t c := by
  by_contra hn
  push Not at hn
  unfold O₃ at h
  simp only [Pi.add_apply, Finsupp.add_apply, tallyAt_apply] at h
  rw [if_neg (fun e => hn _ e.1), if_neg (fun e => hn _ e.1), if_neg (fun e => hn _ e.1)] at h
  exact Nat.lt_irrefl 0 h
/-- and at launch there and at barriers. -/
theorem O₀_pos {c : Dev nD} {g : GSem nD τ sig} {u : Unit} (h : 0 < O₀ c g u) : (∃ t, g = recvCell t c) ∨ ∃ t, g = barCell t := by
  by_contra hn
  rw [not_or] at hn
  obtain ⟨h1, h2⟩ := hn
  push Not at h1 h2
  unfold O₀ at h
  simp only [Pi.add_apply, Finsupp.add_apply, tallyAt_apply] at h
  rw [if_neg (fun e => h2 _ e.1), if_neg (fun e => h2 _ e.1), if_neg (fun e => h2 _ e.1)] at h
  obtain ⟨t, ht⟩ := O₃_pos (c := c) (g := g) (u := u) h
  exact h1 t ht

omit [FloatOps F] in
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨t, rfl⟩ <;> exact Finset.mem_singleton_self _)
      (fun p hp => by
        rw [Finset.mem_singleton.mp hp]
        show (if 8 ≤ q.val then 2 else 0) ≤ 0
        rw [if_neg (by omega)])
      (fun g u hg => by
        rcases O₀_pos hg with ⟨t, rfl⟩ | ⟨t, rfl⟩
        · rw [lv_recv]; decide
        · rw [lv_bar]; decide)
  · rw [MayWait_zero]; iintro -; iempintro

omit [FloatOps F] in
/-- At its barrier wait a device owes receivers' credit only. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨t, rfl⟩ := O₃_pos hg; exact Finset.mem_singleton_self _)
    (fun p hp => by rw [Finset.mem_singleton.mp hp]; exact le_of_eq (lv_bar c _))
    (fun g u hg => by obtain ⟨t, rfl⟩ := O₃_pos hg; rw [lv_recv]; decide)

end Cert.KernelIdeal.Exchange

end
-- ==== Proof.KernelIdeal.Steps.lean ====
/-
The exchange of the kernel, fourth part: one effect at a time.

Each lemma is one line of the kernel's exchange, stated for any device `c` and any of its peers `t`: a signal of `t`'s
barrier, the wait on the own barrier, a transfer to `t`, and the two waits on a transfer.
-/
module

public import proofs.«01_k».proof.Proof.KernelIdeal.Schedule

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## All the semaphores of the exchange, and the records kept of them -/

/-- A device's semaphores in the exchange: one per target at the sender, one per source at the receiver, its barrier. -/
abbrev J : Type := Dev nD ⊕ Dev nD ⊕ Unit
abbrev csem : J → SemLoc sig
  | .inl t => .dma (sendS t)
  | .inr (.inl s) => .dma (recvS s)
  | .inr (.inr ()) => .reg barS
abbrev kcell (ck : Dev nD × J) : GSem nD τ sig := ((ck.1 : Thread nD τ), csem ck.2)

/-- Every semaphore's invariant, under the name the launch gave it, and that each is at its first round. -/
def records (K : Dev nD × J → ℕ) : sProp 𝕄 :=
  iprop((bigSep Finset.univ fun ck : Dev nD × J => cellInv ER (rd m ρ) (K ck) (kcell ck))
    ∗ bigSep Finset.univ fun ck : Dev nD × J => reached ER (kcell ck) 0)

instance records_persistent (K : Dev nD × J → ℕ) : BI.Persistent (records m ρ K) := by unfold records; infer_instance

variable (K : Dev nD × J → ℕ)

theorem inv_all (ck : Dev nD × J) :
    (bigSep Finset.univ fun ck : Dev nD × J => (cellInv ER (rd m ρ) (K ck) (kcell ck) : sProp 𝕄)) ⊢ cellInv ER (rd m ρ) (K ck) (kcell ck) :=
  bigSep_elim (Finset.mem_univ ck)
omit [FloatOps F] in
theorem reached_all (ck : Dev nD × J) :
    (bigSep Finset.univ fun ck : Dev nD × J => (reached ER (kcell ck) 0 : sProp 𝕄)) ⊢ reached ER (kcell ck) 0 :=
  bigSep_elim (Finset.mem_univ ck)

theorem inv_at (ck : Dev nD × J) : (records m ρ K : sProp 𝕄) ⊢ cellInv ER (rd m ρ) (K ck) (kcell ck) := by
  unfold records
  iintro ⟨H, -⟩
  iapply (inv_all m ρ K ck); iexact H
theorem reached_at (ck : Dev nD × J) : (records m ρ K : sProp 𝕄) ⊢ reached ER (kcell ck) 0 := by
  unfold records
  iintro ⟨-, H⟩
  iapply (reached_all (F := F) ck); iexact H

section Steps
variable (c t : Dev nD)

/-- A signal of peer `t`'s barrier: it hands over slot `t` of `c`'s gathered buffer. -/
theorem wp_signal_peer {α : Type} {Q : α → sProp 𝕄} {k : PUnit → Prog (TpuEff nD τ sig (Elt F) Λ₀ .tc) α}
    (n : Dev nD) (hn : n = t) (h : t ≠ c) (k' : ℤ) (hk : k' = 1) (O : CellTallies nD τ sig Unit) (W : Waits sig Unit) :
    iprop(records m ρ K ∗ owes (c : Thread nD τ) (O + tallyAt (barCell t) () 1) W ∗ dutyTok ER (barCell t) 0 c ∗ ∃ f, slotPts (F := F) c t f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  iintro ⟨#HK, HO, Htok, Hs⟩ Hk
  iapply (Rounds.wp_signal 𝒱₀ ER (rd m ρ) (c : Thread nD τ) none (dst := (n : Thread nD τ)) (κ := K (n, .inr (.inr ())))
      (d := c) (mem_bar m ρ n h.symm) ((amount_bar m ρ n c).trans (by decide)) () O rfl) $$ [HO Htok Hs]
  · isplitr; · iapply (inv_at m ρ K (n, .inr (.inr ()))); iexact HK
    isplitl [HO]; · iexact HO
    isplitl [Htok]; · iexact Htok
    isplitl [Hs]
    · rw [payload_bar]
      isplitl [Hs]; · iexact Hs
      iapply (reached_at m ρ K (c, .inr (.inl n))); iexact HK
    iapply (reached_at m ρ K (n, .inr (.inr ()))); iexact HK
  iexact Hk

/-- The wait on the own barrier: it brings slot `c` of every peer's gathered buffer. -/
theorem wp_wait_barrier {α : Type} {Q : α → sProp 𝕄} {k : PUnit → Prog (TpuEff nD τ sig (Elt F) Λ₀ .tc) α}
    (k' : ℤ) (hk : k' = 3) (W : Waits sig Unit) :
    iprop(records m ρ K ∗ cred (tallyAt (barCell c) () 3) ∗ owes (c : Thread nD τ) (O₃ c) W ∗ levAts L lv ∗ atPos ER (barCell c) 0 ∅ 0)
      ⊢ iprop(((owes (c : Thread nD τ) (O₃ c) (insert (SemLoc.reg barS, ()) W) ∗ atPos ER (barCell c) (0 + 1) ∅ 0
              ∗ (∃ f, slotPts (F := F) (lf c) c f) ∗ (∃ f, slotPts (F := F) (rt c) c f) ∗ (∃ f, slotPts (F := F) (dg c) c f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  iintro ⟨#HK, Hc, HO, #Hlev, Hat⟩ Hk
  iapply (Rounds.wp_wait_rest_token 𝒱₀ ER (rd m ρ) (c : Thread nD τ) none (κ := K (c, .inr (.inr ())))
      (wpE_semWait_eq 𝒱₀ (c : Thread nD τ) none Set.univ) (Set.mem_univ _) () (O := O₃ c) (W := W) (R := 0) (m := 0) (T := ∅)
      (by rw [expect_bar])) $$ [Hc HO Hat]
  · isplitr; · iapply (inv_at m ρ K (c, .inr (.inr ()))); iexact HK
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  icases Hp with ⟨⟨H1, -⟩, ⟨H2, -⟩, ⟨H3, -⟩⟩
  iapply Hk
  isplitl [HO]; · iexact HO
  isplitl [Hat]; · iexact Hat
  isplitl [H1]; · iexact H1
  isplitl [H2] <;> iassumption

/-- A share of the table as a transfer names it. -/
theorem tablePts_view (q : PosShare TreeShare) : (tablePts m ρ q c : sProp 𝕄)
    = (((yM : Memref sig .tc .vmem S224x1024 .bf16).view.loc (c : Thread nD τ)) ↦[(yM : Memref sig .tc .vmem S224x1024 .bf16).view.set]{q} table m ρ c) := by
  unfold tablePts; rw [View.set_whole]
/-- A slot as a transfer names it. -/
theorem slotPts_view (f : (cc0_scratch0 : Ref sig .tc).ty.Contents (Elt F)) : (slotPts t c f : sProp 𝕄)
    = (((slotM c : Memref sig .tc .vmem S224x1024 .bf16).view.loc (t : Thread nD τ)) ↦[(slotM c : Memref sig .tc .vmem S224x1024 .bf16).view.set]{fullShare} f) := by
  unfold slotPts; rw [slotM_set]
/-- What a transfer writes into slot `c` is what the exchange is to leave there. -/
theorem slotPts_landed (f : (cc0_scratch0 : Ref sig .tc).ty.Contents (Elt F)) :
    ((((slotM c : Memref sig .tc .vmem S224x1024 .bf16).view.loc (t : Thread nD τ)) ↦[(slotM c : Memref sig .tc .vmem S224x1024 .bf16).view.set]{fullShare}
      ((slotM c).view.write (Elt F) f ((yM : Memref sig .tc .vmem S224x1024 .bf16).view.read (Elt F) (table m ρ c)) Finset.univ)) : sProp 𝕄)
      = slotPts t c (gathered m ρ) := by
  rw [slotPts_view]; exact pointsTo_congr (landed m ρ c f)

/-- Every slot's transfer is worth the same. -/
theorem slot_credit (v : View sig .tc .vmem S224x1024 .bf16) : v.dmaCredit = N := rfl

/-- A transfer of the table to peer `t`: it takes the share for `t` and slot `c` of `t`'s gathered buffer. -/
theorem wp_send_peer {α : Type} {Q : α → sProp 𝕄} {k : PUnit → Prog (TpuEff nD τ sig (Elt F) Λ₀ .tc) α}
    (n : Dev nD) (hn : n = t) (h : t ≠ c) {sS rS : DmaSem sig} (hs : sS = sendS t) (hr : rS = recvS c)
    {hsc : (slotM c : Memref sig (Dev.tc n : Thread nD τ).2.kind .vmem S224x1024 .bf16).view.ref.isScScratch = false}
    {hsrc : (yM : Memref sig .tc .vmem S224x1024 .bf16).view.WordExact} {hdst : (slotM c : Memref sig .tc .vmem S224x1024 .bf16).view.WordExact}
    {hsem : DmaTarget.Typed .vmem (.dma rS) (.remote (Dev.tc n : Thread nD τ) (slotM c : Memref sig .tc .vmem S224x1024 .bf16) (.dma sS) hsc)}
    (f : (cc0_scratch0 : Ref sig .tc).ty.Contents (Elt F)) (O : CellTallies nD τ sig Unit) (W : Waits sig Unit) :
    iprop(cellInv ER (rd m ρ) (K (c, .inl t)) (sendCell c t) ∗ cellInv ER (rd m ρ) (K (t, .inr (.inl c))) (recvCell t c)
        ∗ tablePts m ρ (shr c t) c ∗ slotPts t c f
        ∗ owes (c : Thread nD τ) (O + tallyAt (recvCell t c) () N) W
        ∗ dutyTok ER (sendCell c t) 0 d₁ ∗ reached ER (sendCell c t) 0 ∗ dutyTok ER (recvCell t c) 0 d₁ ∗ reached ER (recvCell t c) 0)
      ⊢ iprop(((cred (tallyAt (sendCell c t) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma yM (.remote (Dev.tc n : Thread nD τ) (slotM c) (.dma sS) hsc) (.dma rS) hsrc hdst hsem) k) Q) := by
  subst hn hs hr
  rw [tablePts_view, slotPts_view]
  have hr : τ.routes (c : Thread nD τ) (n : Thread nD τ) = true := by routes
  refine Rounds.wp_send_pointsTo (c' := (n : Thread nD τ)) (src := (yM : Memref sig .tc .vmem S224x1024 .bf16)) (dst := (slotM c : Memref sig .tc .vmem S224x1024 .bf16))
    (hsc := hsc) (sS := .dma (sendS n)) (sem := .dma (recvS c)) (hsrc := hsrc) (hdst := hdst) (hsem := hsem) (k := k) (q := shr c n) (fs := table m ρ c)
    𝒱₀ ER (rd m ρ) (c : Thread nD τ) none (κ₁ := K (c, .inl n)) (κ₂ := K (n, .inr (.inl c)))
    (r₁ := 0) (r₂ := 0) (d₁ := d₁) (d₂ := d₁) (fd := f) (mem_send m ρ c n h) (mem_recv m ρ n c h.symm) () () N (slot_credit _)
    (amount_send m ρ c n d₁) (amount_recv m ρ n c d₁) O rfl (W := W) ?_ ?_ hr
  · rw [payload_send, tablePts_view]
  · rw [payload_recv, slotPts_landed]

/-- The wait on the transfer from peer `t`: it brings slot `t`, filled. -/
theorem wp_wait_recv {α : Type} {Q : α → sProp 𝕄} {k : PUnit → Prog (TpuEff nD τ sig (Elt F) Λ₀ .tc) α}
    (h : t ≠ c) {rS : DmaSem sig} (hr : rS = recvS t)
    {src dst : Memref sig .tc .vmem S224x1024 .bf16}
    {hsrc : src.view.WordExact} {hdst : dst.view.WordExact} (W : Waits sig Unit) :
    iprop(records m ρ K ∗ cred (tallyAt (recvCell c t) () N) ∗ owes (c : Thread nD τ) 0 W ∗ atPos ER (recvCell c t) 0 ∅ 0)
      ⊢ iprop(((owes (c : Thread nD τ) 0 (insert (SemLoc.dma (recvS t), ()) W) ∗ atPos ER (recvCell c t) (0 + 1) ∅ 0 ∗ slotPts c t (gathered m ρ))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS src dst hsrc hdst) k) Q) := by
  subst hr
  iintro ⟨#HK, Hc, HO, Hat⟩ Hk
  iapply (Rounds.wp_wait_rest_token 𝒱₀ ER (rd m ρ) (c : Thread nD τ) none (κ := K (c, .inr (.inl t)))
      (wpE_waitDma2_eq 𝒱₀ (c : Thread nD τ) none Set.univ) (Set.mem_univ _) () (O := 0) (W := W) (R := 0) (m := 0) (T := ∅)
      (by rw [expect_recv m ρ c t h, Nat.zero_add, slot_credit])) $$ [Hc HO Hat]
  · isplitr; · iapply (inv_at m ρ K (c, .inr (.inl t))); iexact HK
    isplitl [Hc]; · rw [slot_credit]; iexact Hc
    isplitl [HO]; · iexact HO
    isplitr; · rw [MayWait_zero]; iempintro
    iexact Hat
  iintro ⟨HO, Hat, -, Hpay⟩
  ihave Hp := (Entails.of_eq (rest_recv m ρ c t h)) $$ Hpay
  iapply Hk
  isplitl [HO]; · iexact HO
  isplitl [Hat] <;> iassumption

/-- The wait on the own transfer to peer `t`: it returns the share of the table that the transfer read. -/
theorem wp_wait_send {α : Type} {Q : α → sProp 𝕄} {k : PUnit → Prog (TpuEff nD τ sig (Elt F) Λ₀ .tc) α}
    (h : t ≠ c) {sS : DmaSem sig} (hs : sS = sendS t)
    {src dst : Memref sig .tc .vmem S224x1024 .bf16}
    {hsrc : src.view.WordExact} {hdst : dst.view.WordExact} (W : Waits sig Unit) :
    iprop(records m ρ K ∗ cred (tallyAt (sendCell c t) () N) ∗ owes (c : Thread nD τ) 0 W ∗ atPos ER (sendCell c t) 0 ∅ 0)
      ⊢ iprop(((owes (c : Thread nD τ) 0 (insert (SemLoc.dma (sendS t), ()) W) ∗ atPos ER (sendCell c t) (0 + 1) ∅ 0 ∗ tablePts m ρ (shr c t) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hs
  iintro ⟨#HK, Hc, HO, Hat⟩ Hk
  iapply (Rounds.wp_wait_rest_token 𝒱₀ ER (rd m ρ) (c : Thread nD τ) none (κ := K (c, .inl t))
      (wpE_waitDma2_eq 𝒱₀ (c : Thread nD τ) none Set.univ) (Set.mem_univ _) () (O := 0) (W := W) (R := 0) (m := 0) (T := ∅)
      (by rw [expect_send m ρ c t h, Nat.zero_add, slot_credit])) $$ [Hc HO Hat]
  · isplitr; · iapply (inv_at m ρ K (c, .inl t)); iexact HK
    isplitl [Hc]; · rw [slot_credit]; iexact Hc
    isplitl [HO]; · iexact HO
    isplitr; · rw [MayWait_zero]; iempintro
    iexact Hat
  iintro ⟨HO, Hat, -, Hpay⟩
  ihave Hp := (Entails.of_eq (rest_send m ρ c t h)) $$ Hpay
  iapply Hk
  isplitl [HO]; · iexact HO
  isplitl [Hat] <;> iassumption

end Steps

/-! ## Closing the semaphores -/

/-- Past the round, a semaphore's counter is zero and the device's own again. -/
theorem close_later (c : Dev nD) (j : J) :
    iprop(records m ρ K ∗ atPos ER (kcell (c, j)) (0 + 1) ∅ 0) ⊢ iprop(|={Set.univ}=> semVal (kcell (c, j)) 0 : sProp 𝕄) := by
  iintro ⟨#HK, Hat⟩
  iapply (Rounds.cell_close ER (rd m ρ) (Set.mem_univ (K (c, j))) (fun h => h) (R := 0 + 1) (duties_later m ρ (kcell (c, j))))
  isplitr; · iapply (inv_at m ρ K (c, j)); iexact HK
  iexact Hat
/-- So is the counter of a semaphore that no transfer uses. -/
theorem close_idle (c : Dev nD) (j : J) (h : ∀ r, 0 ≤ r → (rd (F := F) m ρ).duties (kcell (c, j)) r = ∅) :
    iprop(records m ρ K ∗ atPos ER (kcell (c, j)) 0 ∅ 0) ⊢ iprop(|={Set.univ}=> semVal (kcell (c, j)) 0 : sProp 𝕄) := by
  iintro ⟨#HK, Hat⟩
  iapply (Rounds.cell_close ER (rd m ρ) (Set.mem_univ (K (c, j))) (fun h => h) (R := 0) h)
  isplitr; · iapply (inv_at m ρ K (c, j)); iexact HK
  iexact Hat

end Cert.KernelIdeal.Exchange

end
-- ==== Proof.KernelIdeal.Body.lean ====
/-
The exchange of the kernel, fifth part: the body of the kernel, run from what a device holds at the start to what it
holds at the end.
-/
module

public import proofs.«01_k».proof.Proof.KernelIdeal.Steps
public import proofs.«01_k».proof.Proof.Gen.KernelIdeal.Points

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds -/

theorem bigSep_peers (c : Dev nD) (Φ : Dev nD → sProp 𝕄) : bigSep Finset.univ Φ = iprop(Φ c ∗ Φ (lf c) ∗ Φ (rt c) ∗ Φ (dg c)) :=
  bigSep_univ_eq_bigSepL [c, lf c, rt c, dg c] (by revert c; decide) (by revert c; decide) Φ

/-- The tokens of the duties device `c` pays: one at each barrier, one at each of its transfers' two semaphores. -/
def payToks (c : Dev nD) : sProp 𝕄 :=
  iprop((bigSep Finset.univ fun t : Dev nD => dutyTok ER (barCell t) 0 c)
    ∗ (bigSep Finset.univ fun t : Dev nD => dutyTok ER (sendCell c t) 0 d₁)
    ∗ (bigSep Finset.univ fun t : Dev nD => dutyTok ER (recvCell t c) 0 d₁))
/-- Those, and that it is at the first round of each of its own semaphores. -/
def linear (c : Dev nD) : sProp 𝕄 :=
  iprop((atPos ER (barCell c) 0 ∅ 0
      ∗ (bigSep Finset.univ fun t : Dev nD => atPos ER (sendCell c t) 0 ∅ 0)
      ∗ (bigSep Finset.univ fun t : Dev nD => atPos ER (recvCell c t) 0 ∅ 0)) ∗ payToks c)
def ghost (K : Dev nD × J → ℕ) (c : Dev nD) : sProp 𝕄 := iprop(records m ρ K ∗ linear c)

/-- What the body starts from, the buffers aside: the credit of everything the device waits for included. -/
def start (c : Dev nD) : sProp 𝕄 :=
  iprop((∃ K, ghost m ρ K c) ∗ cred (tallyAt (barCell c) () 3)
    ∗ cred (tallyAt (recvCell c (lf c)) () N) ∗ cred (tallyAt (recvCell c (rt c)) () N) ∗ cred (tallyAt (recvCell c (dg c)) () N)
    ∗ levAts L lv)

/-- The two scratch buffers of device `c`, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the body: the scratch buffers and every semaphore at zero. -/
def Φ₁ (c : Dev nD) : sProp 𝕄 :=
  iprop(scratch c ∗ (bigSep Finset.univ fun t : Dev nD => semVal (sendCell c t) 0)
    ∗ (bigSep Finset.univ fun t : Dev nD => semVal (recvCell c t) 0) ∗ semVal (barCell c) 0)

/-! ## The data of the launch -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What each array holds before the launch and what each staging buffer holds after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => istg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The buffers, whole and in parts -/

/-- The gathered buffer is its four slots. -/
theorem slots_eq (c : Dev nD) (f : (cc0_scratch0 : Ref sig .tc).ty.Contents (Elt F)) :
    (((c : Thread nD τ).loc cc0_scratch0) ↦{fullShare} f : sProp 𝕄)
      = iprop(slotPts c c f ∗ slotPts c (lf c) f ∗ slotPts c (rt c) f ∗ slotPts c (dg c) f) := by
  rw [← bigSep_peers c fun t => slotPts c t f]
  unfold slotPts
  refine Eq.trans ?_ (pointsTo_biUnion (ℓ := (c : Thread nD τ).loc cc0_scratch0) Finset.univ slotSet fun s _ t _ h => slot_disjoint h)
  refine congrArg (fun S => (((c : Thread nD τ).loc cc0_scratch0) ↦[S]{fullShare} f : sProp 𝕄)) (Finset.eq_univ_of_forall fun i => ?_).symm
  exact Finset.mem_biUnion.mpr ⟨⟨(i 0).val, (i 0).isLt⟩, Finset.mem_univ _, (mem_slotSet _ i).mpr rfl⟩

/-- A whole table is the shares of the three transfers. -/
theorem table_split (c : Dev nD) : (tablePts m ρ fullShare c : sProp 𝕄)
    ⊣⊢ iprop(tablePts m ρ (shr c (lf c)) c ∗ tablePts m ρ (shr c (rt c)) c ∗ tablePts m ρ (shr c (dg c)) c) := by
  rw [shr_lf, shr_rt, shr_dg]
  unfold tablePts
  have h := pointsTo_share (ℓ := (c : Thread nD τ).loc cc0_scratch1) (I := Finset.univ) (f := table m ρ c) (Ix := Unit) (Name := ℕ) (U := UU) (Lvl := ℕ) (PosShare.mem_left_op_right fullShare)
  have h' := pointsTo_share (ℓ := (c : Thread nD τ).loc cc0_scratch1) (I := Finset.univ) (f := table m ρ c) (Ix := Unit) (Name := ℕ) (U := UU) (Lvl := ℕ) (PosShare.mem_left_op_right fullShare.right)
  exact ⟨h.1.trans (sep_mono_right h'.1), (sep_mono_right h'.2).trans h.2⟩

theorem own_set (c : Dev nD) : ((gM : Memref sig .tc .vmem S4x224x1024 .bf16).access (ownR c) : View sig .tc _ _ _).set ⊆ slotSet c := by
  have hs : ((gM : Memref sig .tc .vmem S4x224x1024 .bf16).access (ownR c) : View sig .tc _ _ _).set = (ownR c).set := View.set_slice_whole _ _
  rw [hs, ownR_eq]

theorem own_setOn (c : Dev nD) : ((gM : Memref sig .tc .vmem S4x224x1024 .bf16).access (ownR c) : View sig .tc _ _ _).setOn Finset.univ ⊆ slotSet c := by
  exact own_set c

/-- What the own store leaves in the own slot. -/
theorem slotPts_stored (c : Dev nD) (f : (cc0_scratch0 : Ref sig .tc).ty.Contents (Elt F)) :
    ((View.loc (c : Thread nD τ) ((gM : Memref sig .tc .vmem S4x224x1024 .bf16).access (ownR c)) ↦[slotSet c]{fullShare}
      (((gM : Memref sig .tc .vmem S4x224x1024 .bf16).access (ownR c) : View sig .tc _ _ _).write (Elt F) f (slab m ρ c) Finset.univ)) : sProp 𝕄)
      = slotPts c c (gathered m ρ) := by
  unfold slotPts; exact pointsTo_congr (stored m ρ c f)

/-- The own slot as the kernel's load and store name it. -/
theorem slotPts_own (c : Dev nD) (f : (cc0_scratch0 : Ref sig .tc).ty.Contents (Elt F)) : (slotPts c c f : sProp 𝕄)
    = (View.loc (c : Thread nD τ) ((gM : Memref sig .tc .vmem S4x224x1024 .bf16).access (ownR c)) ↦[slotSet c]{fullShare} f) := rfl

/-- What the store of the table leaves. -/
theorem tablePts_stored (c : Dev nD) :
    ((View.loc (c : Thread nD τ) ((yM : Memref sig .tc .vmem S224x1024 .bf16).access (Rect.unit (s := S224x1024) ![0, 0] S224x1024.size inb_S224x1024_S224x1024_0_0))
      ↦{fullShare} table m ρ c) : sProp 𝕄) = tablePts m ρ fullShare c := rfl

theorem hz : (![0, 0] : Fin 2 → Nat) = fun _ => 0 := funext fun a => by fin_cases a <;> rfl
theorem hz3 : (![0, 0, 0] : Fin 3 → Nat) = fun _ => 0 := funext fun a => by fin_cases a <;> rfl

omit [FloatOps F] in
theorem read_x (f : (cc0_stg0_0 : Ref sig .tc).ty.Contents (Elt F)) :
    (xM : Memref sig .tc .vmem S1024x512 .f32).view.readAt (Elt F) (Rect.unit (s := S1024x512) ![0, 0] S1024x512.size inb_S1024x512_S1024x512_0_0).toLoadRect f = f :=
  Memref.readAt_unit_zero (Elt F) cc0_stg0_0 hz _ f
omit [FloatOps F] in
theorem read_i (f : (cc0_stg1_0 : Ref sig .tc).ty.Contents (Elt F)) :
    (iM : Memref sig .tc .vmem S1024x1 .i32).view.readAt (Elt F) (Rect.unit (s := S1024x1) ![0, 0] S1024x1.size inb_S1024x1_S1024x1_0_0).toLoadRect f = f :=
  Memref.readAt_unit_zero (Elt F) cc0_stg1_0 hz _ f
omit [FloatOps F] in
theorem read_g (f : (cc0_scratch0 : Ref sig .tc).ty.Contents (Elt F)) :
    (gM : Memref sig .tc .vmem S4x224x1024 .bf16).view.readAt (Elt F) (Rect.unit (s := S4x224x1024) ![0, 0, 0] S4x224x1024.size inb_S4x224x1024_S4x224x1024_0_0_0).toLoadRect f = f :=
  Memref.readAt_unit_zero (Elt F) cc0_scratch0 hz3 _ f
omit [FloatOps F] in
theorem write_y (f w : (cc0_scratch1 : Ref sig .tc).ty.Contents (Elt F)) :
    ((yM : Memref sig .tc .vmem S224x1024 .bf16).access (Rect.unit (s := S224x1024) ![0, 0] S224x1024.size inb_S224x1024_S224x1024_0_0) : View sig .tc _ _ _).write (Elt F) f w Finset.univ = w :=
  Memref.write_access_unit_zero_univ (Elt F) cc0_scratch1 hz _ f w
omit [FloatOps F] in
theorem write_out (f w : (cc0_stg3_0 : Ref sig .tc).ty.Contents (Elt F)) :
    ((oM : Memref sig .tc .vmem S1024x1024 .f32).access (Rect.unit (s := S1024x1024) ![0, 0] S1024x1024.size inb_S1024x1024_S1024x1024_0_0) : View sig .tc _ _ _).write (Elt F) f w Finset.univ = w :=
  Memref.write_access_unit_zero_univ (Elt F) cc0_stg3_0 hz _ f w

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ
    ∗ stg c cc0_stg0_0 (xstg m ρ c) ∗ stg c cc0_stg1_0 (istg m ρ c) ∗ stg c cc0_stg2_0 (wstg m ρ c) ∗ stg c cc0_stg3_0 (outAt m ρ c))

set_option maxHeartbeats 4000000 in
set_option maxRecDepth 8000 in
/-- The body, one rule per effect in the order of the program. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, Prog.bind_assoc, wp_deviceId]
  unfold bodyPre Φ₀ start ghost linear payToks scratch
  simp only [bigSep_peers c]
  iintro ⟨⟨⟨⟨⟨%K, #HK, ⟨HaB, ⟨HaSc, HaSl, HaSr, HaSd⟩, ⟨HaVc, HaVl, HaVr, HaVd⟩⟩, ⟨-, HtBl, HtBr, HtBd⟩, ⟨-, HtSl, HtSr, HtSd⟩, ⟨-, HtVl, HtVr, HtVd⟩⟩,
      HcB, HcVl, HcVr, HcVd, #Hlev⟩, ⟨%fg, Hg⟩, ⟨%fy, Hy⟩⟩,
    Ho, ⟨%e0, %g0, %hg0, Hx⟩, ⟨%e1, %g1, %hg1, Hi⟩, ⟨%e2, %g2, %hg2, Hw⟩, ⟨%e3, %g3, %hg3, Hout⟩⟩, Hk⟩
  have hx : g0 = xstg m ρ c := by rw [hg0]; unfold Dat.before; rw [if_pos (fetch0_0 t₀)]; rfl
  have hi : g1 = istg m ρ c := by rw [hg1]; unfold Dat.before; rw [if_pos (fetch0_1 t₀)]; rfl
  have hw : g2 = wstg m ρ c := by rw [hg2]; unfold Dat.before; rw [if_pos (fetch0_2 t₀)]; rfl
  subst hx hi hw
  unfold Dat.owesAt Pipeline.owesWithin
  icases Ho with ⟨%W, %hW, HO⟩
  rw [show (dats m ρ 0 c).owed t₀.castSucc = O₀ c from rfl]
  ihave Hg' := (Entails.of_eq (slots_eq c fg)) $$ Hg
  icases Hg' with ⟨Hgc, Hgl, Hgr, Hgd⟩
  unfold O₀
  iapply (wp_signal_peer m ρ K c (lf c) _ (dev1_eq c) (lf_ne c) _ (by decide) (O₃ c + tallyAt (barCell (dg c)) () 1 + tallyAt (barCell (rt c)) () 1) W) $$ [HO HtBl Hgl]
  · isplitr; · iexact HK
    isplitl [HO]; · iexact HO
    isplitl [HtBl]; · iexact HtBl
    iexists fg; iexact Hgl
  iintro HO
  iapply (wp_signal_peer m ρ K c (rt c) _ (dev2_eq c) (rt_ne c) _ (by decide) (O₃ c + tallyAt (barCell (dg c)) () 1) W) $$ [HO HtBr Hgr]
  · isplitr; · iexact HK
    isplitl [HO]; · iexact HO
    isplitl [HtBr]; · iexact HtBr
    iexists fg; iexact Hgr
  iintro HO
  iapply (wp_signal_peer m ρ K c (dg c) _ (dev3_eq c) (dg_ne c) _ (by decide) (O₃ c) W) $$ [HO HtBd Hgd]
  · isplitr; · iexact HK
    isplitl [HO]; · iexact HO
    isplitl [HtBd]; · iexact HtBd
    iexists fg; iexact Hgd
  iintro HO
  iapply (wp_wait_barrier m ρ K c _ (by decide) W) $$ [HcB HO HaB]
  · isplitr; · iexact HK
    isplitl [HcB]; · iexact HcB
    isplitl [HO]; · iexact HO
    isplitr; · iexact Hlev
    iexact HaB
  iintro ⟨HO, HaB, ⟨%fl, Hpl⟩, ⟨%fr, Hpr⟩, ⟨%fd, Hpd⟩⟩
  iapply (wp_load 𝒱₀ (c : Thread nD τ) none Set.univ (m := iM) (Finset.subset_univ _)) $$ Hi; iintro Hi
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  rw [read_x, read_i]
  iapply (wp_load 𝒱₀ (c : Thread nD τ) none Set.univ (m := yM) (Finset.subset_univ _)) $$ Hy; iintro Hy
  iapply (wp_store 𝒱₀ (c : Thread nD τ) none Set.univ (m := yM) (r := Rect.unit (s := S224x1024) ![0, 0] S224x1024.size inb_S224x1024_S224x1024_0_0) (Mk := Finset.univ) (Finset.subset_univ _)) $$ Hy; iintro Hy
  rw [write_y]
  ihave Hgc := (Entails.of_eq (slotPts_own c fg)) $$ Hgc
  iapply (wp_load_rect 𝒱₀ (c : Thread nD τ) none Set.univ (m := gM) (r := ownR c) (own_set c)) $$ Hgc; iintro Hgc
  iapply (wp_store 𝒱₀ (c : Thread nD τ) none Set.univ (m := gM) (r := ownR c) (Mk := Finset.univ) (own_setOn c)) $$ Hgc; iintro Hgc
  have hst := slotPts_stored m ρ c fg
  have hty := tablePts_stored m ρ c
  unfold slab at hst
  unfold table at hty
  ihave Hgc' := (Entails.of_eq hst) $$ Hgc
  ihave Hy' := (Entails.of_eq hty) $$ Hy
  ihave Hy3 := (table_split m ρ c).1 $$ Hy'
  icases Hy3 with ⟨Hyl, Hyr, Hyd⟩
  unfold O₃
  iapply (wp_send_peer m ρ K c (lf c) _ (dev4_eq c) (lf_ne c) (send_lf c) (recv_self c) fl (tallyAt (recvCell (dg c) c) () N + tallyAt (recvCell (rt c) c) () N) (insert (SemLoc.reg barS, ()) W)) $$ [Hyl Hpl HO HtSl HtVl]
  · isplitr; · iapply (inv_at m ρ K (c, .inl (lf c))); iexact HK
    isplitr; · iapply (inv_at m ρ K (lf c, .inr (.inl c))); iexact HK
    isplitl [Hyl]; · iexact Hyl
    isplitl [Hpl]; · iexact Hpl
    isplitl [HO]; · iexact HO
    isplitl [HtSl]; · iexact HtSl
    isplitr; · iapply (reached_at m ρ K (c, .inl (lf c))); iexact HK
    isplitl [HtVl]; · iexact HtVl
    iapply (reached_at m ρ K (lf c, .inr (.inl c))); iexact HK
  iintro ⟨HcSl, HO⟩
  iapply (wp_send_peer m ρ K c (rt c) _ (dev5_eq c) (rt_ne c) (send_rt c) (recv_self c) fr (tallyAt (recvCell (dg c) c) () N) (insert (SemLoc.reg barS, ()) W)) $$ [Hyr Hpr HO HtSr HtVr]
  · isplitr; · iapply (inv_at m ρ K (c, .inl (rt c))); iexact HK
    isplitr; · iapply (inv_at m ρ K (rt c, .inr (.inl c))); iexact HK
    isplitl [Hyr]; · iexact Hyr
    isplitl [Hpr]; · iexact Hpr
    isplitl [HO]; · iexact HO
    isplitl [HtSr]; · iexact HtSr
    isplitr; · iapply (reached_at m ρ K (c, .inl (rt c))); iexact HK
    isplitl [HtVr]; · iexact HtVr
    iapply (reached_at m ρ K (rt c, .inr (.inl c))); iexact HK
  iintro ⟨HcSr, HO⟩
  rw [← zero_add (tallyAt (recvCell (dg c) c) () N : CellTallies nD τ sig Unit)]
  iapply (wp_send_peer m ρ K c (dg c) _ (dev6_eq c) (dg_ne c) (send_dg c) (recv_self c) fd 0 (insert (SemLoc.reg barS, ()) W)) $$ [Hyd Hpd HO HtSd HtVd]
  · isplitr; · iapply (inv_at m ρ K (c, .inl (dg c))); iexact HK
    isplitr; · iapply (inv_at m ρ K (dg c, .inr (.inl c))); iexact HK
    isplitl [Hyd]; · iexact Hyd
    isplitl [Hpd]; · iexact Hpd
    isplitl [HO]; · iexact HO
    isplitl [HtSd]; · iexact HtSd
    isplitr; · iapply (reached_at m ρ K (c, .inl (dg c))); iexact HK
    isplitl [HtVd]; · iexact HtVd
    iapply (reached_at m ρ K (dg c, .inr (.inl c))); iexact HK
  iintro ⟨HcSd, HO⟩
  iapply (wp_wait_recv m ρ K c (lf c) (lf_ne c) (recv_lf c) (insert (SemLoc.reg barS, ()) W)) $$ [HcVl HO HaVl]
  · isplitr; · iexact HK
    isplitl [HcVl]; · iexact HcVl
    isplitl [HO] <;> iassumption
  iintro ⟨HO, HaVl, Hgl⟩
  iapply (wp_wait_recv m ρ K c (rt c) (rt_ne c) (recv_rt c) (insert (SemLoc.dma (recvS (lf c)), ()) (insert (SemLoc.reg barS, ()) W))) $$ [HcVr HO HaVr]
  · isplitr; · iexact HK
    isplitl [HcVr]; · iexact HcVr
    isplitl [HO] <;> iassumption
  iintro ⟨HO, HaVr, Hgr⟩
  iapply (wp_wait_recv m ρ K c (dg c) (dg_ne c) (recv_dg c) (insert (SemLoc.dma (recvS (rt c)), ()) (insert (SemLoc.dma (recvS (lf c)), ()) (insert (SemLoc.reg barS, ()) W)))) $$ [HcVd HO HaVd]
  · isplitr; · iexact HK
    isplitl [HcVd]; · iexact HcVd
    isplitl [HO] <;> iassumption
  iintro ⟨HO, HaVd, Hgd⟩
  ihave Hg := (Entails.of_eq (slots_eq c (gathered m ρ)).symm) $$ [Hgc' Hgl Hgr Hgd]
  · isplitl [Hgc']; · iexact Hgc'
    isplitl [Hgl]; · iexact Hgl
    isplitl [Hgr] <;> iassumption
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Hout; iintro Hout
  iapply (wp_store 𝒱₀ (c : Thread nD τ) none Set.univ (m := oM) (r := Rect.unit (s := S1024x1024) ![0, 0] S1024x1024.size inb_S1024x1024_S1024x1024_0_0) (Mk := Finset.univ) (Finset.subset_univ _)) $$ Hout; iintro Hout
  rw [write_out]
  iapply (wp_wait_send m ρ K c (lf c) (lf_ne c) (send_lf c) (insert (SemLoc.dma (recvS (dg c)), ()) (insert (SemLoc.dma (recvS (rt c)), ()) (insert (SemLoc.dma (recvS (lf c)), ()) (insert (SemLoc.reg barS, ()) W))))) $$ [HcSl HO HaSl]
  · isplitr; · iexact HK
    isplitl [HcSl]; · iexact HcSl
    isplitl [HO] <;> iassumption
  iintro ⟨HO, HaSl, Hyl⟩
  iapply (wp_wait_send m ρ K c (rt c) (rt_ne c) (send_rt c) (insert (SemLoc.dma (sendS (lf c)), ()) (insert (SemLoc.dma (recvS (dg c)), ()) (insert (SemLoc.dma (recvS (rt c)), ()) (insert (SemLoc.dma (recvS (lf c)), ()) (insert (SemLoc.reg barS, ()) W)))))) $$ [HcSr HO HaSr]
  · isplitr; · iexact HK
    isplitl [HcSr]; · iexact HcSr
    isplitl [HO] <;> iassumption
  iintro ⟨HO, HaSr, Hyr⟩
  iapply (wp_wait_send m ρ K c (dg c) (dg_ne c) (send_dg c) (insert (SemLoc.dma (sendS (rt c)), ()) (insert (SemLoc.dma (sendS (lf c)), ()) (insert (SemLoc.dma (recvS (dg c)), ()) (insert (SemLoc.dma (recvS (rt c)), ()) (insert (SemLoc.dma (recvS (lf c)), ()) (insert (SemLoc.reg barS, ()) W))))))) $$ [HcSd HO HaSd]
  · isplitr; · iexact HK
    isplitl [HcSd]; · iexact HcSd
    isplitl [HO] <;> iassumption
  iintro ⟨HO, HaSd, Hyd⟩
  ihave Hy := (table_split m ρ c).2 $$ [Hyl Hyr Hyd]
  · isplitl [Hyl]; · iexact Hyl
    isplitl [Hyr] <;> iassumption
  imod (close_later m ρ K c (.inl (lf c))) $$ [HaSl] with HzSl
  · isplitr; · iexact HK
    iexact HaSl
  imod (close_later m ρ K c (.inl (rt c))) $$ [HaSr] with HzSr
  · isplitr; · iexact HK
    iexact HaSr
  imod (close_later m ρ K c (.inl (dg c))) $$ [HaSd] with HzSd
  · isplitr; · iexact HK
    iexact HaSd
  imod (close_idle m ρ K c (.inl c) (duties_send_self m ρ c)) $$ [HaSc] with HzSc
  · isplitr; · iexact HK
    iexact HaSc
  imod (close_later m ρ K c (.inr (.inl (lf c)))) $$ [HaVl] with HzVl
  · isplitr; · iexact HK
    iexact HaVl
  imod (close_later m ρ K c (.inr (.inl (rt c)))) $$ [HaVr] with HzVr
  · isplitr; · iexact HK
    iexact HaVr
  imod (close_later m ρ K c (.inr (.inl (dg c)))) $$ [HaVd] with HzVd
  · isplitr; · iexact HK
    iexact HaVd
  imod (close_idle m ρ K c (.inr (.inl c)) (duties_recv_self m ρ c)) $$ [HaVc] with HzVc
  · isplitr; · iexact HK
    iexact HaVc
  imod (close_later m ρ K c (.inr (.inr ()))) $$ [HaB] with HzB
  · isplitr; · iexact HK
    iexact HaB
  rw [wp_ret]; imodintro
  iapply Hk
  unfold bodyPost Φ₁ scratch Dat.owesAt Pipeline.owesWithin
  simp only [bigSep_peers c]
  rw [show (dats m ρ 0 c).owed t₀.succ = 0 from rfl]
  isplitl [Hg Hy HzSc HzSl HzSr HzSd HzVc HzVl HzVr HzVd HzB]
  · isplitl [Hg Hy]
    · isplitl [Hg]; · iexists (gathered m ρ); iexact Hg
      iexists (table m ρ c); unfold tablePts; iexact Hy
    isplitl [HzSc HzSl HzSr HzSd]
    · isplitl [HzSc]; · iexact HzSc
      isplitl [HzSl]; · iexact HzSl
      isplitl [HzSr] <;> iassumption
    isplitl [HzVc HzVl HzVr HzVd]
    · isplitl [HzVc]; · iexact HzVc
      isplitl [HzVl]; · iexact HzVl
      isplitl [HzVr] <;> iassumption
    iexact HzB
  isplitl [HO]
  · iexists (insert (SemLoc.dma (sendS (dg c)), ()) (insert (SemLoc.dma (sendS (rt c)), ()) (insert (SemLoc.dma (sendS (lf c)), ()) (insert (SemLoc.dma (recvS (dg c)), ()) (insert (SemLoc.dma (recvS (rt c)), ()) (insert (SemLoc.dma (recvS (lf c)), ()) (insert (SemLoc.reg barS, ()) W)))))))
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

end Cert.KernelIdeal.Exchange

end
-- ==== Proof.KernelIdeal.Launch.lean ====
/-
The exchange of the kernel, last part: the launch of the four devices together, and the final memory of every run.
-/
module

public import proofs.«01_k».proof.Proof.KernelIdeal.Body
public import Idealize.ShloMosaic.Lib.Quiescent
public import Idealize.ShloMosaic.Lib.Pipeline.Quiescent

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

set_option maxRecDepth 8000 in
/-- The body's obligation at the one grid point. -/
theorem body_obligation (c : Dev nD) : BodyObligation (dats (F := F) m ρ 0 c) (defs₀ (F := F)) 𝒱₀ () Set.univ := fun t => by
  rw [fin_N t]
  have hW (Φ : Fin cfg0.W → sProp 𝕄) : bigSep Finset.univ Φ = iprop(Φ (0 : Fin 4) ∗ Φ (1 : Fin 4) ∗ Φ (2 : Fin 4) ∗ Φ (3 : Fin 4)) := bigSep_W0 Φ
  rw [hW, hW]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3) (fun _ => bodyPost m ρ c)
  iintro H
  iapply (sound_body m ρ c fun _ => bodyPost m ρ c)
  isplitl [H]; · iexact H
  iintro H; iexact H

/-! ## The semaphores and the tokens of the launch -/

/-- The kernel's own semaphores: one per target and one per source. -/
abbrev osem : Dev nD ⊕ Dev nD → SemLoc sig
  | .inl t => .dma (sendS t)
  | .inr s => .dma (recvS s)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × J → GSem nD τ sig) := by
  rintro ⟨c, k⟩ ⟨c', k'⟩ h
  have h1 : c = c' := congrArg (fun g : GSem nD τ sig => g.1.1) h
  subst h1
  have h2 : k = k' := csem_injective (congrArg Prod.snd h)
  rw [h2]

def exCells : Finset (GSem nD τ sig) := Finset.univ.map ⟨kcell, kcell_injective⟩

/-- A device's tokens: one per possible payer of its barrier, one at each of its other semaphores. -/
abbrev Tok : Type := Dev nD × (Dev nD ⊕ Dev nD ⊕ Dev nD)
abbrev tokOf : Tok → GSem nD τ sig × ℕ × Dev nD
  | (c, .inl d) => (barCell c, 0, d)
  | (c, .inr (.inl t)) => (sendCell c t, 0, d₁)
  | (c, .inr (.inr s)) => (recvCell c s, 0, d₁)

theorem tok_local : Function.Injective (fun j : Dev nD ⊕ Dev nD ⊕ Dev nD => match j with
    | .inl d => ((.reg barS : SemLoc sig), d) | .inr (.inl t) => (.dma (sendS t), d₁) | .inr (.inr s) => (.dma (recvS s), d₁)) := by decide

theorem tokOf_injective : Function.Injective tokOf := by
  rintro ⟨c, j⟩ ⟨c', j'⟩ h
  have h1 : c = c' := by
    have := congrArg (fun x : GSem nD τ sig × ℕ × Dev nD => x.1.1.1) h
    rcases j with _ | _ | _ <;> rcases j' with _ | _ | _ <;> exact this
  subst h1
  have h2 := congrArg (fun x : GSem nD τ sig × ℕ × Dev nD => (x.1.2, x.2.2)) h
  have : j = j' := tok_local (by rcases j with _ | _ | _ <;> rcases j' with _ | _ | _ <;> exact h2)
  rw [this]
def exToks : Finset (GSem nD τ sig × ℕ × Dev nD) := Finset.univ.map ⟨tokOf, tokOf_injective⟩

def u₀ : UU :=
  (initOf (Pipeline.cells cfgs cellOf_inj) (Pipeline.launchToks cfgs cellOf_inj), initOf exCells exToks)

/-- The tokens at device `c`'s own semaphores. -/
def toks (c : Dev nD) : sProp 𝕄 :=
  iprop((bigSep Finset.univ fun d : Dev nD => dutyTok ER (barCell c) 0 d)
    ∗ (bigSep Finset.univ fun t : Dev nD => dutyTok ER (sendCell c t) 0 d₁)
    ∗ (bigSep Finset.univ fun s : Dev nD => dutyTok ER (recvCell c s) 0 d₁))

/-- What device `c` starts the launch with. -/
def G (c : Dev nD) : sProp 𝕄 :=
  iprop((bigSep Finset.univ fun k : J => roundState ER (rd m ρ) (kcell (c, k)) 0)
    ∗ (bigSep Finset.univ fun k : J => iprop(atPos ER (kcell (c, k)) 0 ∅ 0 ∗ reached ER (kcell (c, k)) 0)) ∗ toks c)
/-- What the four devices together make of it. -/
def G' (c : Dev nD) : sProp 𝕄 := iprop(∃ K, ghost m ρ K c)

theorem bigSep_J (Φ : J → sProp 𝕄) : bigSep Finset.univ Φ
    = iprop((bigSep Finset.univ fun t : Dev nD => Φ (.inl t)) ∗ (bigSep Finset.univ fun s : Dev nD => Φ (.inr (.inl s))) ∗ Φ (.inr (.inr ()))) := by
  rw [bigSep_univ_sum, bigSep_univ_sum, bigSep_univ_of_subsingleton ()]; rfl

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : J => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (rd m ρ) exCells exToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun t : Dev nD => semVal (sendCell c t) 0) ∗ (bigSep Finset.univ fun s : Dev nD => semVal (recvCell c s) 0)) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : J => semVal (kcell (c, k)) 0 : sProp 𝕄) := by
  rw [ownSems0_eq, unscopedSems0_eq, bigSep_J]
  iintro ⟨⟨HS, HV⟩, HB⟩
  isplitl [HS]; · iexact HS
  isplitl [HV] <;> iassumption

/-- Every semaphore of device `c` gets its invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : J => semVal (kcell (c, k)) 0) ∗ bigSep Finset.univ fun k : J => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens, dealt to the devices that pay with them. -/
theorem toks_dealt : (bigSep Finset.univ fun c : Dev nD => (toks c : sProp 𝕄)) = bigSep Finset.univ fun c : Dev nD => payToks c := by
  unfold toks payToks
  rw [bigSep_sep', bigSep_sep', bigSep_sep', bigSep_sep',
    BI.bigSep_univ_comm (fun c d : Dev nD => (dutyTok ER (barCell c) 0 d : sProp 𝕄)),
    BI.bigSep_univ_comm (fun c s : Dev nD => (dutyTok ER (recvCell c s) 0 d₁ : sProp 𝕄))]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × J → ℕ) (c : Dev nD) : iprop(records m ρ K ∗ linear c) ⊢ G' m ρ c := by
  unfold G' ghost
  iintro H
  iexists K; iexact H

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × J => iprop(∃ κ : ℕ, cellInv ER (rd m ρ) κ (kcell ck))),
    bigSep_congr (s := Finset.univ) (fun (c : Dev nD) _ => bigSep_sep' Finset.univ (fun k : J => (atPos ER (kcell (c, k)) 0 ∅ 0 : sProp 𝕄)) (fun k => reached ER (kcell (c, k)) 0)),
    bigSep_sep', ← bigSep_univ_prod (fun ck : Dev nD × J => (reached ER (kcell ck) 0 : sProp 𝕄))]
  iintro ⟨HI, ⟨Hat, #HR⟩, Htok⟩
  ihave HK := (BI.bigSep_exists_pi Finset.univ (fun (ck : Dev nD × J) (κ : ℕ) => (cellInv ER (rd m ρ) κ (kcell ck) : sProp 𝕄))) $$ HI
  icases HK with ⟨%K, #HI⟩
  ihave Htk := (Entails.of_eq (toks_dealt (F := F))) $$ Htok
  iapply (with_persistent (R := records m ρ K) fun c _ => ghost_intro m ρ K c)
  isplitr
  · unfold records; isplitl; · iexact HI
    iexact HR
  · iapply ((Entails.of_eq (bigSep_sep' Finset.univ (fun c : Dev nD => bigSep Finset.univ fun k : J => (atPos ER (kcell (c, k)) 0 ∅ 0 : sProp 𝕄)) payToks).symm).trans
      (bigSep_mono fun c _ => show _ ⊢ linear c from by
        unfold linear; rw [bigSep_J]
        iintro ⟨⟨HS, HV, HB⟩, HT⟩
        isplitr [HT]
        · isplitl [HB]; · iexact HB
          isplitl [HS] <;> iassumption
        iexact HT))
    isplitl [Hat]; · iexact Hat
    iexact Htk

/-- The semaphores of all the devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of the launch -/

theorem bar_iff {a b : Dev nD} : barCell a = barCell b ↔ a = b :=
  ⟨fun h => congrArg (fun g : GSem nD τ sig => g.1.1) h, fun h => h ▸ rfl⟩
theorem recvS_injective : Function.Injective recvS := by decide
theorem recv_iff {a b s t : Dev nD} : recvCell a s = recvCell b t ↔ (a = b ∧ s = t) :=
  ⟨fun h => ⟨congrArg (fun g : GSem nD τ sig => g.1.1) h, recvS_injective (SemLoc.dma.inj (congrArg Prod.snd h))⟩,
    fun h => by rw [h.1, h.2]⟩
theorem bar_recv {a b s : Dev nD} : barCell a ≠ recvCell b s := fun h => by cases congrArg Prod.snd h
theorem recv_bar {a b s : Dev nD} : recvCell a s ≠ barCell b := fun h => by cases congrArg Prod.snd h

/-- What device `d` owes at device `c`'s barrier, -/
theorem owed_bar (d c : Dev nD) : O₀ d (barCell c) () = (if c = dg d then 1 else 0) + (if c = rt d then 1 else 0) + (if c = lf d then 1 else 0) := by
  unfold O₀ O₃
  simp only [Pi.add_apply, Finsupp.add_apply, tallyAt_ne_cell bar_recv, tallyAt_apply, Finsupp.zero_apply, Nat.zero_add, bar_iff, _root_.and_true]
/-- and at its semaphore for the transfer from `s`. -/
theorem owed_recv (d c s : Dev nD) : O₀ d (recvCell c s) ()
    = (if c = dg d ∧ s = d then N else 0) + (if c = rt d ∧ s = d then N else 0) + (if c = lf d ∧ s = d then N else 0) := by
  unfold O₀ O₃
  simp only [Pi.add_apply, Finsupp.add_apply, tallyAt_ne_cell recv_bar, tallyAt_apply, Finsupp.zero_apply, Nat.add_zero, recv_iff, _root_.and_true]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c s : Dev nD) (h : ∀ n : ℕ, (if c = dg s then n else 0) + (if c = rt s then n else 0) + (if c = lf s then n else 0) = n) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_eq_single s (fun d _ hd => by rw [if_neg fun h => hd h.2.symm, if_neg fun h => hd h.2.symm, if_neg fun h => hd h.2.symm]; rfl)
      (fun h => absurd (Finset.mem_univ _) h)]
  simp only [_root_.and_true]
  exact h N

theorem one_lf (c : Dev nD) (n : ℕ) : (if c = dg (lf c) then n else 0) + (if c = rt (lf c) then n else 0) + (if c = lf (lf c) then n else 0) = n := by
  rw [if_neg (by revert c; decide), if_pos (by revert c; decide), if_neg (by revert c; decide)]; omega
theorem one_rt (c : Dev nD) (n : ℕ) : (if c = dg (rt c) then n else 0) + (if c = rt (rt c) then n else 0) + (if c = lf (rt c) then n else 0) = n := by
  rw [if_neg (by revert c; decide), if_neg (by revert c; decide), if_pos (by revert c; decide)]; omega
theorem one_dg (c : Dev nD) (n : ℕ) : (if c = dg (dg c) then n else 0) + (if c = rt (dg c) then n else 0) + (if c = lf (dg c) then n else 0) = n := by
  rw [if_pos (by revert c; decide), if_neg (by revert c; decide), if_neg (by revert c; decide)]; omega

/-- The credit of the waits of device `c`. -/
theorem creds (c : Dev nD) :
    (Pipeline.launchCred O₀ c : sProp 𝕄) ⊢ iprop(cred (tallyAt (barCell c) () 3)
      ∗ cred (tallyAt (recvCell c (lf c)) () N) ∗ cred (tallyAt (recvCell c (rt c)) () N) ∗ cred (tallyAt (recvCell c (dg c)) () N)) := by
  unfold Pipeline.launchCred
  refine (bigSep_subset (t := [SemLoc.reg barS, .dma (recvS (lf c)), .dma (recvS (rt c)), .dma (recvS (dg c))].toFinset) (Finset.subset_univ _)).trans ?_
  rw [bigSep_eq_bigSepL_of_eq [SemLoc.reg barS, .dma (recvS (lf c)), .dma (recvS (rt c)), .dma (recvS (dg c))] rfl (by revert c; decide),
    bigSepL_cons_cons, bigSepL_cons_cons, bigSepL_cons_cons, bigSepL_singleton, launch_bar, launch_recv c (lf c) (one_lf c),
    launch_recv c (rt c) (one_rt c), launch_recv c (dg c) (one_dg c)]
  exact BI.Entails.refl _

/-! ## Into the launch and out of it -/

/-- The one array no window reads stays with its device. -/
def kept (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ kept m c) := by
  rw [Pipeline.unscopedRestP_none, unscopedRest0_eq]
  iintro ⟨Harg, Hlev, Hcr, -, HG⟩
  ihave Hc := (creds (F := F) c) $$ Hcr
  icases Hc with ⟨HB, Hl, Hr, Hd⟩
  imodintro
  unfold start G' kept
  isplitr [Harg]
  · isplitl [HG]; · iexact HG
    isplitl [HB]; · iexact HB
    isplitl [Hl]; · iexact Hl
    isplitl [Hr]; · iexact Hr
    isplitl [Hd] <;> iassumption
  · iexact Harg

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzS, HzV, HzB⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What each window's array holds after the run. -/
def finalA (c : Dev nD) (w : Fin cfg0.W) : Buf (Elt F) ((cfg0.win w).arr.view.loc (c : Thread nD τ)) := (dats m ρ 0 c).arrAt w cfg0.N

/-- The final memory: the windows' arrays, the array no window reads as it was, every semaphore at zero. -/
def Final (s : MemSt nD τ sig (Elt F)) : Prop :=
  (∀ c : Dev nD, (∀ w : Fin cfg0.W, s.mem ((cfg0.win w).arr.view.loc (c : Thread nD τ)) = finalA m ρ c w)
    ∧ s.mem ((c : Thread nD τ).loc main_arg1) = m ((c : Thread nD τ).loc main_arg1)) ∧ s.sem = fun _ => 0

theorem kept_read (c : Dev nD) (s' : Phys nD τ sig (Elt F)) :
    iprop(kept m c ∗ SI s') ⊢ iprop(⌜s'.mem.mem ((c : Thread nD τ).loc main_arg1) = m ((c : Thread nD τ).loc main_arg1)⌝ ∗ (SI s' : sProp 𝕄)) := by
  have h := Idealize.ShloMosaic.pointsTo_read_all (Ix := Unit) (Name := ℕ) (U := UU) (Lvl := ℕ) ({()} : Finset Unit) (fun _ => (c : Thread nD τ).loc main_arg1)
    (fun _ => m ((c : Thread nD τ).loc main_arg1)) s'
  rw [bigSep_singleton] at h
  unfold kept
  iintro H
  ihave H' := h $$ H
  icases H' with ⟨%h1, HSI⟩
  isplitr; · ipureintro; exact h1 () (Finset.mem_singleton_self _)
  iexact HSI

set_option maxRecDepth 8000 in
/-- Every run of the four devices from any memory with its semaphores at zero ends, in the final memory. -/
theorem run_main : θ_run defs (onTc (τ := τ) (main (F := F))) (s₀ m ρ) (fun r => Final m ρ r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := kept m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      iintro ⟨Hu, HZ, HSI⟩
      ihave H := (kept_read m c s') $$ [HZ HSI]
      · isplitl [HZ] <;> iassumption
      icases H with ⟨%h1, HSI⟩
      ihave %h2 := (Idealize.ShloMosaic.tcUnscoped_read c s') $$ [Hu HSI]
      · isplitl [Hu] <;> iassumption
      imodintro
      isplitr; · ipureintro; exact ⟨h1, h2⟩
      iexact HSI)
    (hQ := fun _ h hs => ⟨fun c => ⟨fun w => (h c).1 w, (h c).2.2.1⟩, sem_eq_zero hs fun c => (h c).2.2.2⟩)

/-- The tokens after the run are what they were, -/
theorem finalA_0 (c : Dev nD) : finalA m ρ c (0 : Fin 4) = m ((c : Thread nD τ).loc main_arg0) :=
  (dats (F := F) m ρ 0 c).arrAt_in (0 : Fin 4) rfl _
/-- so are the experts they are routed to, -/
theorem finalA_1 (c : Dev nD) : finalA m ρ c (1 : Fin 4) = m ((c : Thread nD τ).loc main_arg2) :=
  (dats (F := F) m ρ 0 c).arrAt_in (1 : Fin 4) rfl _
/-- and the weights. -/
theorem finalA_2 (c : Dev nD) : finalA m ρ c (2 : Fin 4) = m ((c : Thread nD τ).loc main_arg3) :=
  (dats (F := F) m ρ 0 c).arrAt_in (2 : Fin 4) rfl _

end Cert.KernelIdeal.Exchange

end
-- ==== Proof.Value.Seats.lean ====
/-
The arithmetic of the seats. Expert `e` has the 56 seats `56 e`, …, `56 e + 55` and takes its first 51 tokens, in order, into the first
of them. The kernel gathers tokens into seats by a matrix of zeros and ones, multiplies each expert's seats by its weights, and spreads the
products back to the tokens by the same matrix. Nothing here speaks of a program: the last theorem says that this is the sum over the experts
which the definition asks for.
-/
module

public import Mathlib.Data.EReal.Operations
public import Mathlib.Data.Fintype.Fin
public import Mathlib.Algebra.BigOperators.Fin

@[expose] public section

namespace Cert.Seats

/-- A word is the word of its number. -/
theorem word_eq (w : BitVec 32) : w = BitVec.ofNat 32 w.toNat := BitVec.eq_of_toNat_eq (by rw [BitVec.toNat_ofNat, Nat.mod_eq_of_lt w.isLt])

/-- How many of the tokens up to and including `t` name expert `e`. -/
def upTo (r : Fin 1024 → BitVec 32) (e : ℕ) (t : Fin 1024) : ℕ :=
  (Finset.univ.filter fun u : Fin 1024 => u ≤ t ∧ r u = BitVec.ofNat 32 e).card

/-- The number of token `t` among the tokens of its expert, counted from one. -/
def rank (r : Fin 1024 → BitVec 32) (t : Fin 1024) : ℕ := upTo r (r t).toNat t

/-- One more than the seat of token `t`. -/
def seat (r : Fin 1024 → BitVec 32) (t : Fin 1024) : ℕ := (r t).toNat * 56 + rank r t

/-- Token `t` is one of the first 51 of its expert. -/
abbrev Kept (r : Fin 1024 → BitVec 32) (t : Fin 1024) : Prop := rank r t ≤ 51

variable {r : Fin 1024 → BitVec 32}

/-- Counting at most all the tokens, -/
theorem upTo_le (e : ℕ) (t : Fin 1024) : upTo r e t ≤ 1024 := by
  have h := Finset.card_filter_le (Finset.univ : Finset (Fin 1024)) (fun u => u ≤ t ∧ r u = BitVec.ofNat 32 e)
  rw [Finset.card_fin] at h
  exact h

/-- and at least the token itself. -/
theorem rank_pos (t : Fin 1024) : 1 ≤ rank r t :=
  Finset.card_pos.mpr ⟨t, Finset.mem_filter.mpr ⟨Finset.mem_univ t, le_refl t, word_eq _⟩⟩

/-- A later token of the same expert has a larger number. -/
theorem rank_lt {t u : Fin 1024} (h : u < t) (hr : r u = r t) : rank r u < rank r t := by
  unfold rank upTo
  rw [hr]
  refine Finset.card_lt_card ⟨fun v hv => ?_, fun hs => ?_⟩
  · rw [Finset.mem_filter] at hv ⊢
    exact ⟨hv.1, hv.2.1.trans h.le, hv.2.2⟩
  · have ht := hs (Finset.mem_filter.mpr ⟨Finset.mem_univ t, le_refl t, word_eq (r t)⟩)
    exact absurd (Finset.mem_filter.mp ht).2.1 (not_le.mpr h)

/-- No two tokens that are kept have the same seat. -/
theorem seat_inj {t u : Fin 1024} (ht : Kept r t) (hu : Kept r u) (h : seat r t = seat r u) : t = u := by
  have p := rank_pos (r := r) t
  have q := rank_pos (r := r) u
  unfold seat at h
  have he : (r t).toNat = (r u).toNat := by unfold Kept at ht hu; omega
  have hn : rank r t = rank r u := by omega
  have hr : r t = r u := BitVec.eq_of_toNat_eq he
  rcases lt_trichotomy t u with hl | hl | hl
  · exact absurd hn (rank_lt hl hr).ne
  · exact hl
  · exact absurd hn (rank_lt hl hr.symm).ne'

/-- A kept token's seat is its expert's. -/
theorem seat_bounds {t : Fin 1024} (ht : Kept r t) : (r t).toNat * 56 < seat r t ∧ seat r t ≤ (r t).toNat * 56 + 51 := by
  have p := rank_pos (r := r) t
  unfold seat Kept at *
  omega

/-- The row of a seat: the token that sits there, if there is one. -/
theorem row_of_seat {t : Fin 1024} {q : ℕ} (ht : Kept r t) (hq : seat r t = q + 1) (f : Fin 1024 → EReal) :
    (∑ u, (if seat r u = q + 1 ∧ Kept r u then (1 : EReal) else 0) * f u) = f t := by
  rw [Finset.sum_eq_single t]
  · rw [if_pos ⟨hq, ht⟩, one_mul]
  · intro u _ hu
    rw [if_neg fun h => hu (seat_inj h.2 ht (h.1.trans hq.symm)), zero_mul]
  · exact fun h => absurd (Finset.mem_univ t) h

/-- What the result holds for the token `t` at the feature `o`: the sum over the experts that take the token. -/
noncomputable def moe (x : Fin 1024 → Fin 512 → EReal) (r : Fin 1024 → BitVec 32) (W : Fin 16 → Fin 512 → Fin 1024 → EReal) (t o : Fin 1024) : EReal :=
  ∑ e : Fin 16, if r t = BitVec.ofNat 32 e.val ∧ upTo r e.val t ≤ 51 then ∑ d : Fin 512, x t d * W e d o else 0

/-- The expert whose seat `q` is. -/
def expertOf (q : Fin 896) : Fin 16 := ⟨q.val / 56, by have := q.isLt; omega⟩

/-- Gathering the tokens into their seats, multiplying each seat's row by its expert's weights and spreading the products back gives, at every
    token, the sum over the experts of the token's product with the expert's weights where the expert takes the token. -/
theorem spread (x : Fin 1024 → Fin 512 → EReal) (W : Fin 16 → Fin 512 → Fin 1024 → EReal) (hr : ∀ t, (r t).toNat < 16) (t : Fin 1024) (o : Fin 1024) :
    (∑ q : Fin 896, (if seat r t = q.val + 1 ∧ Kept r t then (1 : EReal) else 0)
        * ∑ d : Fin 512, (∑ u, (if seat r u = q.val + 1 ∧ Kept r u then (1 : EReal) else 0) * x u d) * W (expertOf q) d o)
      = moe x r W t o := by
  unfold moe
  have he := hr t
  have hR : (∑ e : Fin 16, if r t = BitVec.ofNat 32 e.val ∧ upTo r e.val t ≤ 51 then ∑ d : Fin 512, x t d * W e d o else 0)
      = if Kept r t then ∑ d : Fin 512, x t d * W ⟨(r t).toNat, he⟩ d o else 0 := by
    rw [Finset.sum_eq_single (⟨(r t).toNat, he⟩ : Fin 16)]
    · by_cases hk : Kept r t
      · rw [if_pos hk, if_pos ⟨word_eq _, hk⟩]
      · rw [if_neg hk, if_neg fun h => hk h.2]
    · intro e _ hne
      rw [if_neg]
      rintro ⟨h, -⟩
      refine hne (Fin.ext ?_)
      show e.val = (r t).toNat
      rw [h, BitVec.toNat_ofNat]
      have := e.isLt
      omega
    · exact fun h => absurd (Finset.mem_univ _) h
  rw [hR]
  by_cases hk : Kept r t
  · have hb := seat_bounds hk
    have hq : seat r t = (seat r t - 1) + 1 := by omega
    rw [if_pos hk, Finset.sum_eq_single (⟨seat r t - 1, by omega⟩ : Fin 896)]
    · rw [if_pos ⟨hq, hk⟩, one_mul]
      refine Finset.sum_congr rfl fun d _ => ?_
      rw [row_of_seat hk hq]
      refine congrArg (fun e : Fin 16 => x t d * W e d o) (Fin.ext ?_)
      show (seat r t - 1) / 56 = (r t).toNat
      omega
    · intro q _ hne
      rw [if_neg fun h => hne (Fin.ext (by show q.val = seat r t - 1; omega)), zero_mul]
    · exact fun h => absurd (Finset.mem_univ _) h
  · rw [if_neg hk]
    exact Finset.sum_eq_zero fun q _ => by rw [if_neg fun h => hk h.2, zero_mul]

end Cert.Seats

end
-- ==== Proof.Value.Rank.lean ====
/-
What the kernel computes about one token, over the extended reals: its number among the tokens of its expert, whether it is kept, its seat,
and the matrix of zeros and ones that says which token sits in which seat.
-/
module

public import proofs.«01_k».proof.Proof.Value.Seats
public import proofs.«01_k».proof.Proof.KernelIdeal.Contents
public import Idealize.ShloMosaic.Lib.Pointwise

@[expose] public section

set_option maxRecDepth 16384

noncomputable section

namespace Cert.KernelIdeal.Value

open Cert.KernelIdeal Cert.KernelIdeal.Gen Cert.Seats
open Idealize.ShloMosaic

/-- The word of the expert each token names. -/
def route (a : Vec Ideal S1024x1 .i32) : Fin 1024 → BitVec 32 := fun t => a (ix2 t 0)

/-- A condition's bit, widened and read as a number, is one where the condition holds and zero elsewhere. -/
theorem bit_num (p : Prop) [Decidable p] :
    (FloatOps.sitofp (F := Ideal) .f32 (BitVec.setWidth 32 (BitVec.ofBool (decide p))) : EReal) = if p then 1 else 0 := by
  show ((((BitVec.setWidth 32 (BitVec.ofBool (decide p))).toInt : ℝ)) : EReal) = _
  by_cases h : p <;> simp [h]

/-- Equality of words, as the kernel compares them. -/
theorem eq_bit (a b : BitVec 32) : IntOp.cmpi .eq a b = BitVec.ofBool (decide (a = b)) := by
  show BitVec.ofBool (a == b) = _
  congr 1

/-- The order of two tokens, as the kernel compares their positions. -/
theorem ge_bit (t u : Fin 1024) : IntOp.cmpi .sge (BitVec.ofNat 32 t.val) (BitVec.ofNat 32 u.val) = BitVec.ofBool (decide (u ≤ t)) := by
  have ht := t.isLt
  have hu := u.isLt
  have e : ∀ v : Fin 1024, (BitVec.ofNat 32 v.val).toInt = (v.val : ℤ) := fun v => by
    have hv := v.isLt
    rw [BitVec.toInt_eq_toNat_cond, BitVec.toNat_ofNat, Nat.mod_eq_of_lt (by omega), if_pos (by omega)]
  show BitVec.ofBool ((BitVec.ofNat 32 u.val).sle (BitVec.ofNat 32 t.val)) = _
  congr 1
  rw [BitVec.sle_eq_decide, e, e]
  refine decide_eq_decide.mpr ?_
  rw [Fin.le_def]
  omega

theorem count_num {ι : Type} (s : Finset ι) (p : ι → Prop) [DecidablePred p] :
    (∑ i ∈ s, if p i then (1 : EReal) else 0) = (((s.filter p).card : ℝ) : EReal) := by
  rw [Finset.sum_boole]; simp

/-- The number of a token among the tokens of its expert, counted from zero, as the kernel sums it. -/
theorem pay3_at (a : Vec Ideal S1024x1 .i32) (h : ∀ t, (route a t).toNat < 16) (t : Fin 1024) :
    k0_pay3 (F := Ideal) a (ix2 t 0) = (((rank (route a) t : ℝ) - 1 : ℝ) : EReal) := by
  pointwise [k0_pay3, k0_pay2]
  simp only [eq_bit, ge_bit, bit_num]
  have hin (x : Fin 16) : (∑ u : Fin 1024, (if u ≤ t then (1 : EReal) else 0) * if a (ix2 u 0) = BitVec.ofNat 32 x.val then 1 else 0)
      = ((upTo (route a) x.val t : ℝ) : EReal) := by
    unfold upTo
    rw [← count_num]
    refine Finset.sum_congr rfl fun u _ => ?_
    by_cases h1 : u ≤ t <;> by_cases h2 : a (ix2 u 0) = BitVec.ofNat 32 x.val <;> simp [route, h1, h2]
  simp only [hin]
  rw [Finset.sum_eq_single (⟨(route a t).toNat, h t⟩ : Fin 16)]
  · rw [if_pos (show a (ix2 t 0) = BitVec.ofNat 32 (⟨(route a t).toNat, h t⟩ : Fin 16).val from word_eq (a (ix2 t 0))), one_mul, EReal.coe_sub]
    rfl
  · intro x _ hne
    have hx := x.isLt
    rw [if_neg fun hw : a (ix2 t 0) = BitVec.ofNat 32 x.val => hne (Fin.ext (by
      show x.val = (a (ix2 t 0)).toNat
      rw [hw, BitVec.toNat_ofNat]; omega)), zero_mul]
  · exact fun hn => absurd (Finset.mem_univ _) hn

theorem ofBits_51 : Ideal.ofBits .f32 1112276992#32 = ((51 : ℝ) : EReal) := by
  simp [Ideal.ofBits, Ideal.ieee, -EReal.coe_mul]; norm_num
theorem ofBits_56 : Ideal.ofBits .f32 1113587712#32 = ((56 : ℝ) : EReal) := by
  simp [Ideal.ofBits, Ideal.ieee, -EReal.coe_mul]; norm_num

/-- Which tokens are kept. -/
theorem pay4_at (a : Vec Ideal S1024x1 .i32) (h : ∀ t, (route a t).toNat < 16) (t : Fin 1024) :
    k0_pay4 (F := Ideal) a (ix2 t 0) = BitVec.ofBool (decide (Kept (route a) t)) := by
  pointwise [k0_pay4]
  rw [pay3_at a h, ofBits_51]
  congr 1
  refine decide_eq_decide.mpr ?_
  rw [EReal.coe_lt_coe_iff]
  have : ((rank (route a) t : ℕ) : ℝ) ≤ ((51 : ℕ) : ℝ) ↔ rank (route a) t ≤ 51 := Nat.cast_le
  have h2 : ((rank (route a) t : ℕ) : ℝ) < ((52 : ℕ) : ℝ) ↔ rank (route a) t < 52 := Nat.cast_lt
  constructor
  · intro hh
    have : ((rank (route a) t : ℕ) : ℝ) < ((52 : ℕ) : ℝ) := by push_cast; linarith
    have := h2.mp this
    unfold Kept; omega
  · intro hh
    have := h2.mpr (by unfold Kept at hh; omega)
    push_cast at this
    linarith

/-- The seat of each token, as a number. -/
theorem pay5_at (a : Vec Ideal S1024x1 .i32) (h : ∀ t, (route a t).toNat < 16) (t : Fin 1024) :
    k0_pay5 (F := Ideal) a (ix2 t 0) = (((seat (route a) t : ℝ) - 1 : ℝ) : EReal) := by
  have ht := h t
  have hi : (route a t).toInt = ((route a t).toNat : ℤ) := by rw [BitVec.toInt_eq_toNat_cond, if_pos (by omega)]
  pointwise [k0_pay5, k0_pay2]
  rw [pay3_at a h, ofBits_56]
  show (((route a t).toInt : ℝ) : EReal) * _ + _ = _
  rw [hi, ← EReal.coe_mul, ← EReal.coe_add]
  congr 1
  unfold seat
  push_cast
  ring

/-- A number is a token's seat. -/
theorem seat_num (n q : ℕ) : ((((n : ℝ) - 1 : ℝ)) : EReal) = ((q : ℝ) : EReal) ↔ n = q + 1 := by
  rw [EReal.coe_eq_coe_iff, sub_eq_iff_eq_add]
  exact_mod_cast Iff.rfl

theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem num_small (q : ℕ) (hq : q < 1000) : (FloatOps.sitofp (F := Ideal) .f32 (BitVec.ofNat 32 q) : EReal) = ((q : ℝ) : EReal) := by
  show ((((BitVec.ofNat 32 q).toInt : ℝ)) : EReal) = _
  have : (BitVec.ofNat 32 q).toInt = (q : ℤ) := by
    rw [BitVec.toInt_eq_toNat_cond, BitVec.toNat_ofNat, Nat.mod_eq_of_lt (by omega), if_pos (by omega)]
  rw [this]; rfl

/-- The matrix that spreads the seats back to the tokens. -/
theorem pay11_at (a : Vec Ideal S1024x1 .i32) (h : ∀ t, (route a t).toNat < 16) (t : Fin 1024) (q : Fin 896) :
    k0_pay11 (F := Ideal) (k0_pay4 a) (k0_pay5 a) (ix2 t q) = if seat (route a) t = q.val + 1 ∧ Kept (route a) t then (1 : EReal) else 0 := by
  have hq := q.isLt
  pointwise [k0_pay11]
  rw [pay4_at a h, pay5_at a h, num_small q.val (by omega), and_bit, bit_num]
  simp only [seat_num]

end Cert.KernelIdeal.Value

end
-- ==== Proof.Value.Table.lean ====
/-
What the kernel's buffers hold, over the extended reals: the table of seats of one device, the gathered tables of all four, and the result.
-/
module

public import proofs.«01_k».proof.Proof.Value.Rank

@[expose] public section

set_option maxRecDepth 16384

noncomputable section

namespace Cert.KernelIdeal.Value

open Cert.KernelIdeal Cert.KernelIdeal.Gen Cert.KernelIdeal.Exchange Cert.Seats
open Idealize.ShloMosaic
open Idealize.ShloMosaic.TcCoe

/-- The number of a device, as the kernel computes it. -/
theorem devWord_eq (c : Dev nD) : devWord c = BitVec.ofNat 32 c.val := by revert c; decide

/-- The first seat of device `c` plus `s`, as a number. -/
theorem pay6_at (c : Dev nD) (t : Fin 1024) (s : Fin 224) :
    k0_pay6 (F := Ideal) (devWord c) (ix2 t s) = (((c.val * 224 + s.val : ℕ) : ℝ) : EReal) := by
  have hc : c.val < 4 := c.isLt
  have hs := s.isLt
  pointwise [k0_pay6]
  rw [devWord_eq]
  have e : IntOp.addi (Scalar.muli (BitVec.ofNat 32 c.val) 224#32) (BitVec.ofNat 32 s.val) = BitVec.ofNat 32 (c.val * 224 + s.val) := by
    show BitVec.ofNat 32 c.val * BitVec.ofNat 32 224 + BitVec.ofNat 32 s.val = _
    rw [← BitVec.ofNat_mul, ← BitVec.ofNat_add]
  rw [e, num_small _ (by omega)]

/-- The matrix that gathers the tokens into the seats of device `c`. -/
theorem gather_at (a : Vec Ideal S1024x1 .i32) (h : ∀ t, (route a t).toNat < 16) (c : Dev nD) (t : Fin 1024) (s : Fin 224) :
    (FloatOps.sitofp (F := Ideal) .f32 (BitVec.setWidth 32 (IntOp.andi
        (BitVec.ofBool (decide (k0_pay7 (F := Ideal) a (ix2 t s) = k0_pay6 (F := Ideal) (devWord c) (ix2 t s)))) (k0_pay4 (F := Ideal) a (ix2 t 0)))) : EReal)
      = if seat (route a) t = (c.val * 224 + s.val) + 1 ∧ Kept (route a) t then 1 else 0 := by
  have e7 : k0_pay7 (F := Ideal) a (ix2 t s) = k0_pay5 (F := Ideal) a (ix2 t 0) := by pointwise [k0_pay7]
  rw [e7, pay5_at a h, pay6_at, pay4_at a h, and_bit, bit_num]
  simp only [seat_num]

/-- The local expert whose seat `s` is. -/
def localOf (s : Fin 224) : Fin 4 := ⟨s.val / 56, by have := s.isLt; omega⟩

/-- The table of a device: each seat's row, multiplied by the weights of its expert. -/
theorem pay9_at (a : Vec Ideal S1024x1 .i32) (h : ∀ t, (route a t).toNat < 16) (c : Dev nD) (x : Vec Ideal S1024x512 .f32)
    (w : Fin 4 → Vec Ideal S1x512x1024 .f32) (s : Fin 224) (o : Fin 1024) :
    k0_pay9 (F := Ideal) (k0_pay4 a) (k0_pay6 (devWord c)) (k0_pay7 a) x (w 0) (w 1) (w 2) (w 3) (ix2 s o)
      = ∑ d : Fin 512, (∑ t, (if seat (route a) t = (c.val * 224 + s.val) + 1 ∧ Kept (route a) t then (1 : EReal) else 0) * x (ix2 t d))
          * w (localOf s) (ix3 0 d o) := by
  have hs := s.isLt
  simp only [← gather_at a h]
  pointwise [k0_pay9, k0_pay8]
  by_cases h1 : s.val < 56
  · rw [dif_pos h1]
    rw [show localOf s = 0 from Fin.ext (by show s.val / 56 = 0; omega)]
  · rw [dif_neg h1]
    by_cases h2 : s.val - 56 < 56
    · rw [dif_pos h2]
      rw [show localOf s = 1 from Fin.ext (by show s.val / 56 = 1; omega)]
      have e : (⟨56 + (s.val - 56), by omega⟩ : Fin 224) = s := Fin.ext (by show 56 + (s.val - 56) = s.val; omega)
      simp only [e]
    · rw [dif_neg h2]
      by_cases h3 : s.val - 56 - 56 < 56
      · rw [dif_pos h3]
        rw [show localOf s = 2 from Fin.ext (by show s.val / 56 = 2; omega)]
        have e : (⟨112 + (s.val - 56 - 56), by omega⟩ : Fin 224) = s := Fin.ext (by show 112 + (s.val - 56 - 56) = s.val; omega)
        simp only [e]
      · rw [dif_neg h3]
        rw [show localOf s = 3 from Fin.ext (by show s.val / 56 = 3; omega)]
        have e : (⟨168 + (s.val - 56 - 56 - 56), by omega⟩ : Fin 224) = s := Fin.ext (by show 168 + (s.val - 56 - 56 - 56) = s.val; omega)
        simp only [e]

/-- The result: the rows of the gathered tables, spread to the tokens. -/
theorem pay1_at (a : Vec Ideal S1024x1 .i32) (h : ∀ t, (route a t).toNat < 16) (g : Vec Ideal S4x224x1024 .bf16) (t : Fin 1024) (o : Fin 1024) :
    k0_pay1 (F := Ideal) (k0_pay11 (k0_pay4 a) (k0_pay5 a)) g (ix2 t o)
      = ∑ q : Fin 896, (if seat (route a) t = q.val + 1 ∧ Kept (route a) t then (1 : EReal) else 0)
          * g (ix3 ⟨q.val / 224, by have := q.isLt; omega⟩ ⟨q.val % 224, by omega⟩ o) := by
  simp only [← pay11_at a h]
  pointwise [k0_pay1]

end Cert.KernelIdeal.Value

end
-- ==== Proof.Value.Out.lean ====
/-
The result of the run, over the extended reals: where every device holds the same tokens and the same routing, and its own four of the sixteen
experts, every device's result is the sum over the experts of each token's product with the weights of the experts that take it.
-/
module

public import proofs.«01_k».proof.Proof.Value.Table
public import proofs.«01_k».proof.Proof.KernelIdeal.Launch

@[expose] public section

set_option maxRecDepth 16384

noncomputable section

namespace Cert.KernelIdeal.Value

open Cert.KernelIdeal Cert.KernelIdeal.Gen Cert.KernelIdeal.Exchange Cert.Seats
open Idealize.ShloMosaic
open Idealize.ShloMosaic.TcCoe

variable (m : (ℓ : Loc nD τ sig) → Buf (Elt Ideal) ℓ) (ρ : Dev nD → PrngReg)

/-! ## The staged blocks are the whole arrays -/

theorem emb_0 (j : S1024x512.Idx) : (win0_0.blk (0 : Fin 1)).view.emb j = j := by
  funext a
  match a with
  | ⟨0, _⟩ => exact Fin.ext (by show 0 * 1024 + 1 * (j 0).val = (j 0).val; omega)
  | ⟨1, _⟩ => exact Fin.ext (by show 0 * 512 + 1 * (j 1).val = (j 1).val; omega)

theorem emb_1 (j : S1024x1.Idx) : (win0_1.blk (0 : Fin 1)).view.emb j = j := by
  funext a
  match a with
  | ⟨0, _⟩ => exact Fin.ext (by show 0 * 1024 + 1 * (j 0).val = (j 0).val; omega)
  | ⟨1, _⟩ => exact Fin.ext (by show 0 * 1 + 1 * (j 1).val = (j 1).val; omega)

theorem emb_2 (j : S4x512x1024.Idx) : (win0_2.blk (0 : Fin 1)).view.emb j = j := by
  funext a
  match a with
  | ⟨0, _⟩ => exact Fin.ext (by show 0 * 4 + 1 * (j 0).val = (j 0).val; omega)
  | ⟨1, _⟩ => exact Fin.ext (by show 0 * 512 + 1 * (j 1).val = (j 1).val; omega)
  | ⟨2, _⟩ => exact Fin.ext (by show 0 * 1024 + 1 * (j 2).val = (j 2).val; omega)

theorem emb_3 (t : Fin cfg0.N) (j : S1024x1024.Idx) : ((cfg0.win 3).blk t).view.emb j = j := by
  rw [fin_N t]
  funext a
  match a with
  | ⟨0, _⟩ => exact Fin.ext (by show 0 * 1024 + 1 * (j 0).val = (j 0).val; omega)
  | ⟨1, _⟩ => exact Fin.ext (by show 0 * 1024 + 1 * (j 1).val = (j 1).val; omega)

theorem xstg_eq (c : Dev nD) : xstg m ρ c = m ((c : Thread nD τ).loc main_arg0) :=
  funext fun j => congrArg (m ((c : Thread nD τ).loc main_arg0)) (emb_0 j)
theorem istg_eq (c : Dev nD) : istg m ρ c = m ((c : Thread nD τ).loc main_arg2) :=
  funext fun j => congrArg (m ((c : Thread nD τ).loc main_arg2)) (emb_1 j)
theorem wstg_eq (c : Dev nD) : wstg m ρ c = m ((c : Thread nD τ).loc main_arg3) :=
  funext fun j => congrArg (m ((c : Thread nD τ).loc main_arg3)) (emb_2 j)

/-- The weights of local expert `k`, as the kernel loads them. -/
theorem wAt_at (W : Vec Ideal S4x512x1024 .f32) (k : Fin 4) (h : ∀ a, (![k.val, 0, 0] : Fin 3 → ℕ) a + S1x512x1024.size a ≤ S4x512x1024.size a)
    (d : Fin 512) (o : Fin 1024) : wAt (F := Ideal) W k.val h (ix3 0 d o) = W (ix3 k d o) := by
  refine congrArg W (funext fun a => Fin.ext ?_)
  match a with
  | ⟨0, _⟩ => show k.val + 1 * 0 = k.val; omega
  | ⟨1, _⟩ => show 0 + 1 * d.val = d.val; omega
  | ⟨2, _⟩ => show 0 + 1 * o.val = o.val; omega

/-- The result array after the run is the block that the body computes. -/
theorem finalA_3 (c : Dev nD) : finalA m ρ c (3 : Fin 4) = outAt m ρ c := by
  unfold finalA
  refine (dats m ρ 0 c).arrAt_eq_of_cover (3 : Fin 4) (outAt m ρ c) (fun t _ => ?_) fun i => ⟨t₀, by decide, ?_⟩
  · have ha : (dats m ρ 0 c).after 3 t = outAt m ρ c := rfl
    unfold Pipeline.Dat.flushed
    rw [ha]
    exact funext fun j => congrArg (outAt m ρ c) (emb_3 t j).symm
  · have := View.emb_mem_set ((cfg0.win 3).blk t₀).view i
    rwa [emb_3] at this

/-! ## The result -/

/-- The local expert `k` of device `c`, among the sixteen. -/
def globalOf (c : Dev nD) (k : Fin 4) : Fin 16 := ⟨c.val * 4 + k.val, by have h : c.val < 4 := c.isLt; have := k.isLt; omega⟩

/-- The table of device `c`, read at its seat `s`. -/
theorem table_at (c : Dev nD) (x : Vec Ideal S1024x512 .f32) (a : Vec Ideal S1024x1 .i32) (W : Fin 16 → Fin 512 → Fin 1024 → EReal)
    (hx : m ((c : Thread nD τ).loc main_arg0) = x) (ha : m ((c : Thread nD τ).loc main_arg2) = a)
    (hW : ∀ k d o, (m ((c : Thread nD τ).loc main_arg3) : Vec Ideal S4x512x1024 .f32) (ix3 k d o) = W (globalOf c k) d o)
    (hr : ∀ t, (route a t).toNat < 16) (s : Fin 224) (o : Fin 1024) :
    (table m ρ c : Vec Ideal S224x1024 .bf16) (ix2 s o)
      = ∑ d : Fin 512, (∑ t, (if seat (route a) t = (c.val * 224 + s.val) + 1 ∧ Kept (route a) t then (1 : EReal) else 0) * x (ix2 t d))
          * W (globalOf c (localOf s)) d o := by
  unfold table
  rw [xstg_eq, istg_eq, wstg_eq, hx, ha]
  refine (pay9_at a hr c x (fun k => wAt (m ((c : Thread nD τ).loc main_arg3)) k.val (by
    have hk := k.isLt
    intro i
    match i with
    | ⟨0, _⟩ => show k.val + 1 ≤ 4; omega
    | ⟨1, _⟩ => show 0 + 512 ≤ 512; omega
    | ⟨2, _⟩ => show 0 + 1024 ≤ 1024; omega)) s o).trans ?_
  refine Finset.sum_congr rfl fun d _ => ?_
  rw [wAt_at, hW]

/-- The result of every device. -/
theorem outAt_at (x : Vec Ideal S1024x512 .f32) (a : Vec Ideal S1024x1 .i32) (W : Fin 16 → Fin 512 → Fin 1024 → EReal)
    (hx : ∀ c : Dev nD, m ((c : Thread nD τ).loc main_arg0) = x) (ha : ∀ c : Dev nD, m ((c : Thread nD τ).loc main_arg2) = a)
    (hW : ∀ (c : Dev nD) k d o, (m ((c : Thread nD τ).loc main_arg3) : Vec Ideal S4x512x1024 .f32) (ix3 k d o) = W (globalOf c k) d o)
    (hr : ∀ t, (route a t).toNat < 16) (c : Dev nD) (t o : Fin 1024) :
    (outAt m ρ c : Vec Ideal S1024x1024 .f32) (ix2 t o) = moe (fun t d => x (ix2 t d)) (route a) W t o := by
  have e (q : Fin 896) : (gathered m ρ : Vec Ideal S4x224x1024 .bf16) (ix3 (⟨q.val / 224, by have := q.isLt; omega⟩ : Fin 4) (⟨q.val % 224, by omega⟩ : Fin 224) o)
      = ∑ d : Fin 512, (∑ t, (if seat (route a) t = q.val + 1 ∧ Kept (route a) t then (1 : EReal) else 0) * x (ix2 t d)) * W (expertOf q) d o := by
    have hq := q.isLt
    rw [gathered_at m ρ (⟨q.val / 224, by show q.val / 224 < 4; omega⟩ : Dev nD) _ (ix2 (⟨q.val % 224, by omega⟩ : Fin 224) o) rfl (fun b => by
        match b with
        | ⟨0, _⟩ => rfl
        | ⟨1, _⟩ => rfl)]
    have e1 : q.val / 224 * 224 + q.val % 224 = q.val := by omega
    have e2 : globalOf (⟨q.val / 224, by show q.val / 224 < 4; omega⟩ : Dev nD) (localOf (⟨q.val % 224, by omega⟩ : Fin 224)) = expertOf q :=
      Fin.ext (by show q.val / 224 * 4 + q.val % 224 / 56 = q.val / 56; omega)
    have h := table_at m ρ (⟨q.val / 224, by show q.val / 224 < 4; omega⟩ : Dev nD) x a W (hx _) (ha _) (hW _) hr (⟨q.val % 224, by omega⟩ : Fin 224) o
    simp only [e1, e2] at h
    exact h
  unfold outAt
  rw [istg_eq, ha, pay1_at a hr]
  simp only [e]
  exact spread (fun t d => x (ix2 t d)) W hr t o

end Cert.KernelIdeal.Value

end
-- ==== Proof.Value.Reference.lean ====
/-
What the reference computes, over the extended reals: a token is taken by the expert it names when it is among that expert's first 51, and its
result is the sum over the experts that take it of its product with their weights.
-/
module

public import proofs.«01_k».proof.Proof.Value.Seats
public import proofs.«01_k».proof.Proof.Gen.ReferenceIdeal.Run
public import Idealize.ShloMosaic.Lib.Pointwise
public import Idealize.ShloMosaic.Lib.Pointwise.IndexBridge
public import Idealize.ShloMosaic.Lib.Routing.OpsOne
public import Idealize.ShloMosaic.Lib.StableHlo.Predicate

@[expose] public section

set_option maxRecDepth 16384

noncomputable section

namespace Cert.ReferenceIdeal.Value

open Cert.ReferenceIdeal Cert.ReferenceIdeal.Gen Cert.Seats
open Idealize.ShloMosaic

/-- Which token names which expert. -/
abbrev names (a : IVec S1024x1 32) : IVec S1024x16 1 :=
  cmpi .eq (broadcastInDim S1024x16 ![0, 1] bcast_S1024x1_S1024x16_0_1 a) (broadcastInDim S1024x16 ![0, 1] bcast_S1x16_S1024x16_0_1 (broadcastInDim S1x16 ![1] bcast_S16_S1x16_1 (iotaInDim S16 32 0)))

/-- How many tokens so far name the expert. -/
abbrev counts (a : IVec S1024x1 32) : IVec S1024x16 32 :=
  Host.reduceWindow IntOp.addi ![1024, 1] ![1, 1] ![1023, 0] ![0, 0] (extui 32 (names a) natLt_1_32) (broadcastInDim S_ ![] bcast_S_S_ (constantI S_ 32 0#32)) reduceWindows_S1024x16_S1024x16_w1024s1p1023_0_w1s1p0_0 h_S_

/-- The reference's result. -/
abbrev result (x : FVec Ideal S1024x512 .f32) (a : IVec S1024x1 32) (w : FVec Ideal S16x512x1024 .f32) : FVec Ideal S1024x1024 .f32 :=
  Host.reduceAdd (F := Ideal) (select (broadcastInDim S1024x16x1024 ![0, 1, 2] bcast_S1024x16x1_S1024x16x1024_0_1_2 (broadcastInDim S1024x16x1 ![0, 1] bcast_S1024x16_S1024x16x1_0_1 (andi (names a) (cmpi .sle (counts a) (broadcastInDim S1024x16 ![] bcast_S_S1024x16 (constantI S_ 32 51#32)))))) (Host.dotGeneral dot_S1024x512_S16x512x1024_S1024x16x1024_1_1_0_02_n_n none x w) (broadcastInDim S1024x16x1024 ![] bcast_S_S1024x16x1024 (id (constant S_ .f32 0x00000000#32)))) (constant S_ .f32 0x00000000#32) reducesTo_S1024x16x1024_S1024x1024_d1 h_S_

theorem names_at (a : IVec S1024x1 32) (t : Fin 1024) (e : Fin 16) :
    names a (ix2 t e) = BitVec.ofBool (decide (a (ix2 t 0) = BitVec.ofNat 32 e.val)) := by
  pointwise []
  show BitVec.ofBool (a (ix2 t 0) == BitVec.ofNat 32 e.val) = _
  congr 1

theorem counts_at (a : IVec S1024x1 32) (t : Fin 1024) (e : Fin 16) :
    counts a (ix2 t e) = BitVec.ofNat 32 (upTo (fun u => a (ix2 u 0)) e.val t) := by
  rw [ix2_eq_valueIdx]
  refine (Routing.cumsum_rows_sum (A := 1024) (Am1 := 1023) (N := 16) rfl _ _ rfl _ _ t e).trans ?_
  have h : ∀ u : Fin 1024, extui 32 (names a) natLt_1_32 (ValueIdx.ix2 u e) = if a (ix2 u 0) = BitVec.ofNat 32 e.val then 1 else 0 := fun u => by
    rw [← ix2_eq_valueIdx]
    show BitVec.setWidth 32 (names a (ix2 u e)) = _
    rw [names_at]
    by_cases p : a (ix2 u 0) = BitVec.ofNat 32 e.val <;> simp [p]
  unfold upTo
  rw [← BitVec.natCast_eq_ofNat, ← Finset.sum_boole]
  refine Finset.sum_congr rfl fun u _ => ?_
  rw [h u]
  by_cases p : u ≤ t <;> by_cases q : a (ix2 u 0) = BitVec.ofNat 32 e.val <;> simp [p, q]

theorem first_bit (n : ℕ) (hn : n ≤ 1024) : IntOp.cmpi .sle (BitVec.ofNat 32 n) 51#32 = BitVec.ofBool (decide (n ≤ 51)) := by
  have h := StableHlo.Predicate.sle_ofNat_iff n 51 (by omega) (by omega)
  show BitVec.ofBool ((BitVec.ofNat 32 n).sle (BitVec.ofNat 32 51)) = _
  congr 1
  rw [StableHlo.Predicate.ofBool_eq_one_iff] at h
  rw [Bool.eq_iff_iff, h, decide_eq_true_iff]

/-- The result for a token at a feature. -/
theorem result_at (x : FVec Ideal S1024x512 .f32) (a : IVec S1024x1 32) (w : FVec Ideal S16x512x1024 .f32) (t o : Fin 1024) :
    result x a w (ix2 t o) = moe (fun t d => x (ix2 t d)) (fun t => a (ix2 t 0)) (fun e d o => w (ix3 e d o)) t o := by
  have hb (e : Fin 16) : andi (names a) (cmpi .sle (counts a) (broadcastInDim S1024x16 ![] bcast_S_S1024x16 (constantI S_ 32 51#32))) (ix2 t e)
      = BitVec.ofBool (decide (a (ix2 t 0) = BitVec.ofNat 32 e.val ∧ upTo (fun u => a (ix2 u 0)) e.val t ≤ 51)) := by
    show IntOp.andi (names a (ix2 t e)) (IntOp.cmpi .sle (counts a (ix2 t e)) 51#32) = _
    rw [names_at, counts_at, first_bit _ (upTo_le _ _)]
    by_cases p : a (ix2 t 0) = BitVec.ofNat 32 e.val <;> by_cases q : upTo (fun u => a (ix2 u 0)) e.val t ≤ 51 <;> simp [p, q, IntOp.andi]
  unfold result moe
  generalize andi (names a) (cmpi .sle (counts a) (broadcastInDim S1024x16 ![] bcast_S_S1024x16 (constantI S_ 32 51#32))) = b at hb ⊢
  pointwise []
  simp only [hb]
  refine Finset.sum_congr rfl fun e _ => ?_
  by_cases p : a (ix2 t 0) = BitVec.ofNat 32 e.val ∧ upTo (fun u => a (ix2 u 0)) e.val t ≤ 51
  · rw [decide_eq_true p, if_pos p]; rfl
  · rw [decide_eq_false p, if_neg p]
    show Ideal.ofBits .f32 0#32 = 0
    simp [Ideal.ofBits, Ideal.ieee]

end Cert.ReferenceIdeal.Value

end
-- ==== Proof.Value.Routed.lean ====
/-
The precondition read back, token by token: every token names one of the sixteen experts.
-/
module

public import proofs.«01_k».proof.Defs
public import Idealize.ShloMosaic.Lib.ReduceAll
public import Idealize.ShloMosaic.Lib.Pointwise

@[expose] public section

set_option maxRecDepth 16384

noncomputable section

namespace Cert.Pre_routed_KernelIdeal

open Idealize.ShloMosaic

theorem facts : Facts := ⟨by decide, by decide, by decide⟩

theorem routed [Facts] (x : FVec Ideal S1024x512 .f32) (g : FVec Ideal S512x16 .f32) (a : IVec S1024x1 32) (w : FVec Ideal S4x512x1024 .f32)
    (h : fn (F := Ideal) x g a w = fun _ => 1#1) (t : Fin 1024) : (a (ix2 t 0)).toNat < 16 := by
  haveI : Subsingleton S_.Idx := ⟨fun p q => funext fun b => b.elim0⟩
  have e := congrFun h ix0
  dsimp only [fn] at e
  have e' := Host.reduce_andi_all _ _ _ _ ix0 e (ix2 t 0)
  have e2 : IntOp.andi (IntOp.cmpi .sge (a (ix2 t 0)) 0#32) (IntOp.cmpi .slt (a (ix2 t 0)) 16#32) = 1#1 := e'
  rw [IntOp.andi_eq_one, IntOp.cmpi_sge, IntOp.cmpi_slt, BitVec.toInt_eq_toNat_cond (a (ix2 t 0)), show (0#32 : BitVec 32).toInt = 0 from rfl,
    show (16#32 : BitVec 32).toInt = 16 from rfl] at e2
  have hl := (a (ix2 t 0)).isLt
  split at e2 <;> omega

end Cert.Pre_routed_KernelIdeal

namespace Cert.Pre_routed_ReferenceIdeal

theorem facts : Facts := ⟨by decide, by decide, by decide⟩

end Cert.Pre_routed_ReferenceIdeal

end
-- ==== Proof.lean ====
/-
The proof of every claim of the certificate: both readings of the kernel run, leave their arguments unchanged and every semaphore at zero; so
does the reference; and over the extended reals, where every token names one of the sixteen experts, each device's result is the reference's.
-/
module

public import proofs.«01_k».proof.Defs
public import proofs.«01_k».proof.Proof.Kernel.Launch
public import proofs.«01_k».proof.Proof.KernelIdeal.Launch
public import proofs.«01_k».proof.Proof.Gen.ReferenceIdeal.Run
public import proofs.«01_k».proof.Proof.Value.Out
public import proofs.«01_k».proof.Proof.Value.Reference
public import proofs.«01_k».proof.Proof.Value.Routed

@[expose] public section

noncomputable section

namespace Cert.Proof

open Idealize.ShloMosaic Idealize.SL.Sem Idealize.ShloMosaic.TcCoe

/-- The kernel as it is written runs and gives everything back. -/
theorem kernel : quiescent_Kernel (hKernel := Cert.Kernel.Gen.facts) := fun m g _ =>
  (θ_run _ _ _).mono (fun _ h => ⟨fun c => ⟨((h.1 c).1 0).trans (Cert.Kernel.Exchange.finalA_0 m g c), (h.1 c).2,
    ((h.1 c).1 1).trans (Cert.Kernel.Exchange.finalA_1 m g c), ((h.1 c).1 2).trans (Cert.Kernel.Exchange.finalA_2 m g c)⟩, h.2⟩)
    (Cert.Kernel.Exchange.run_main m g)

/-- So does the kernel read over the extended reals, -/
theorem kernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r =>
      (∀ c : Dev Cert.KernelIdeal.nD, r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3))
      ∧ r.2.sem = fun _ => 0 :=
  (θ_run _ _ _).mono (fun _ h => ⟨fun c => ⟨((h.1 c).1 0).trans (Cert.KernelIdeal.Exchange.finalA_0 m g c), (h.1 c).2,
    ((h.1 c).1 1).trans (Cert.KernelIdeal.Exchange.finalA_1 m g c), ((h.1 c).1 2).trans (Cert.KernelIdeal.Exchange.finalA_2 m g c)⟩, h.2⟩)
    (Cert.KernelIdeal.Exchange.run_main m g)

/-- and so does the reference, which has no semaphore. -/
theorem reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      (∀ c : Dev Cert.ReferenceIdeal.nD, r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)
        ∧ r.2.mem ((c : Thread Cert.ReferenceIdeal.nD Cert.ReferenceIdeal.τ).loc Cert.ReferenceIdeal.main_arg3) = m ((c : Thread Cert.ReferenceIdeal.nD Cert.ReferenceIdeal.τ).loc Cert.ReferenceIdeal.main_arg3))
      ∧ r.2.sem = fun _ => 0 :=
  (θ_run _ _ _).mono (fun r h => ⟨fun c => (h c).2, funext fun ⟨_, sm⟩ => by
    exfalso
    exact (by decide : SemLoc Cert.ReferenceIdeal.sig → False) sm⟩) (Cert.ReferenceIdeal.Value.run m g)

/-- The weights that device `c` holds are those of the four experts from `4 c` on. -/
theorem block_at (w : (⟨3, ![16, 512, 1024]⟩ : Shape).Idx → EReal) (c : Fin 4) (k : Fin 4) (d : Fin 512) (o : Fin 1024) :
    Layout.block ⟨3, ![4, 512, 1024]⟩ ⟨3, ![16, 512, 1024]⟩ 0 4 c w (by decide) (ix3 k d o) = w (ix3 (Cert.KernelIdeal.Value.globalOf c k) d o) := by
  rw [Layout.block_apply]
  refine congrArg w (funext fun b => ?_)
  match b with
  | ⟨0, _⟩ => exact Fin.ext rfl
  | ⟨1, _⟩ => exact Fin.ext rfl
  | ⟨2, _⟩ => exact Fin.ext rfl

/-- Over the extended reals each device's result is the reference's. -/
theorem algebraic : algebraic_KernelIdeal_ReferenceIdeal_pre_routed_KernelIdeal (hKernelIdeal := Cert.KernelIdeal.Gen.facts) (hReferenceIdeal := Cert.ReferenceIdeal.Gen.facts)
    (hPre_routed_KernelIdeal := Cert.Pre_routed_KernelIdeal.facts) := fun m g m' g' hp hm => by
  refine ⟨Cert.ReferenceIdeal.Value.result (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg2))
    (m' (((0 : Dev Cert.ReferenceIdeal.nD) : Thread Cert.ReferenceIdeal.nD Cert.ReferenceIdeal.τ).loc Cert.ReferenceIdeal.main_arg3)), ?_, ?_⟩
  · refine (θ_run _ _ _).mono (fun r h c => ⟨?_, ((h.1 c).1 0).trans (Cert.KernelIdeal.Exchange.finalA_0 m g c), (h.1 c).2,
      ((h.1 c).1 1).trans (Cert.KernelIdeal.Exchange.finalA_1 m g c), ((h.1 c).1 2).trans (Cert.KernelIdeal.Exchange.finalA_2 m g c)⟩)
      (Cert.KernelIdeal.Exchange.run_main m g)
    refine ((h.1 c).1 3).trans ((Cert.KernelIdeal.Value.finalA_3 m g c).trans (funext fun i => ?_))
    have hi : i = ix2 (i 0) (i 1) := by
      funext b
      match b with
      | ⟨0, _⟩ => rfl
      | ⟨1, _⟩ => rfl
    have hv := fun t o : Fin 1024 => (Cert.KernelIdeal.Value.outAt_at m g _ _ _ (fun c => (hm c).1) (fun c => (hm c).2.2.1)
      (fun c k d o => (congrFun (hm c).2.2.2 (ix3 k d o)).trans (block_at _ c k d o))
      (fun t => @Cert.Pre_routed_KernelIdeal.routed Cert.Pre_routed_KernelIdeal.facts _ _ _ _ (by rw [← (hm 0).2.2.1]; exact hp 0) t) c t o).trans
      (Cert.ReferenceIdeal.Value.result_at _ _ _ t o).symm
    rw [hi]
    exact hv (i 0) (i 1)
  · exact (θ_run _ _ _).mono (fun r h => h 0) (Cert.ReferenceIdeal.Value.run m' g')

theorem claim : Cert.Claim := ⟨Cert.Kernel.Gen.facts, Cert.KernelIdeal.Gen.facts, Cert.ReferenceIdeal.Gen.facts, Cert.Pre_routed_KernelIdeal.facts, Cert.Pre_routed_ReferenceIdeal.facts,
  kernel, fun m g _ => kernelIdeal m g, fun m g _ => kernelIdeal m g, fun m g _ => reference m g, fun m g _ => reference m g, trivial, algebraic⟩

end Cert.Proof

end
